-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![16384, 1024]⟩ ⟨2, ![65536, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S65536x1024 : Shape := ⟨2, ![65536, 1024]⟩
abbrev S2x2048x1024 : Shape := ⟨3, ![2, 2048, 1024]⟩
abbrev S2 : Shape := ⟨1, ![2]⟩
abbrev S3 : Shape := ⟨1, ![3]⟩
abbrev S_ : Shape := ⟨0, ![]⟩
abbrev S1 : Shape := ⟨1, ![1]⟩
abbrev S8192x1024 : Shape := ⟨2, ![8192, 1024]⟩
abbrev S1x2048x1024 : Shape := ⟨3, ![1, 2048, 1024]⟩
abbrev S2048x1024 : Shape := ⟨2, ![2048, 1024]⟩

abbrev nBuf : Space → Nat
  | .hbm => 2
  | .vmem => 1
  | .smem => 0
  | _ => 0

abbrev bufTy : (tb : Table) → Fin (tcTables nBuf tb) → BufTy
  | .hbm, ⟨0, _⟩ => ⟨S16384x1024, .f32⟩
  | .hbm, ⟨1, _⟩ => ⟨S65536x1024, .f32⟩
  | .local _ .vmem, ⟨0, _⟩ => ⟨S2x2048x1024, .f32⟩
  | _, _ => ⟨S16384x1024, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) (c0_i32_21 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_20 : BitVec 32 := 4#32
  let v31 : BitVec 32 := Scalar.addi v2 c4_i32_20
  let v32 : BitVec 32 := Scalar.subi v31 c0_i32_21
  let c4_i32_22 : BitVec 32 := 4#32
  let c0_i32_23 : BitVec 32 := 0#32
  let v33 : BitVec 1 := Scalar.cmpi .eq c4_i32_22 c0_i32_23
  let c1_i32_24 : BitVec 32 := 1#32
  let v34 : BitVec 32 := Scalar.select v33 c1_i32_24 c4_i32_22
  let v35 : BitVec 32 := Scalar.remsi v32 v34
  let c0_i32_26 : BitVec 32 := 0#32
  let v37 : BitVec 1 := Scalar.cmpi .slt v35 c0_i32_26
  let c0_i32_27 : BitVec 32 := 0#32
  let v38 : BitVec 1 := Scalar.cmpi .slt v34 c0_i32_27
  let v39 : BitVec 1 := Scalar.xori v37 v38
  let c0_i32_25 : BitVec 32 := 0#32
  let v36 : BitVec 1 := Scalar.cmpi .ne v35 c0_i32_25
  let v40 : BitVec 1 := Scalar.andi v39 v36
  let v41 : BitVec 32 := Scalar.addi v35 v34
  let v42 : BitVec 32 := Scalar.select v40 v41 v35
  let c16384_i32 : BitVec 32 := 16384#32
  let v43 : BitVec 32 := Scalar.muli v42 c16384_i32
  let c0_i32_40 : BitVec 32 := 0#32
  ![v43.toNat, 0]
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_38 : BitVec 32 := 1#32
  let v57 : BitVec 32 := Scalar.muli v25 c1_i32_38
  let v58 : BitVec 32 := Scalar.addi c0_i32_39 v57
  v58.toNat
def k0_off2 (d0 : Dev nD) (c0_i32_28 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.addi v2 c0_i32_28
  let c4_i32_29 : BitVec 32 := 4#32
  let c0_i32_30 : BitVec 32 := 0#32
  let v45 : BitVec 1 := Scalar.cmpi .eq c4_i32_29 c0_i32_30
  let c1_i32_31 : BitVec 32 := 1#32
  let v46 : BitVec 32 := Scalar.select v45 c1_i32_31 c4_i32_29
  let v47 : BitVec 32 := Scalar.remsi v44 v46
  let c0_i32_33 : BitVec 32 := 0#32
  let v49 : BitVec 1 := Scalar.cmpi .slt v47 c0_i32_33
  let c0_i32_34 : BitVec 32 := 0#32
  let v50 : BitVec 1 := Scalar.cmpi .slt v46 c0_i32_34
  let v51 : BitVec 1 := Scalar.xori v49 v50
  let c0_i32_32 : BitVec 32 := 0#32
  let v48 : BitVec 1 := Scalar.cmpi .ne v47 c0_i32_32
  let v52 : BitVec 1 := Scalar.andi v51 v48
  let v53 : BitVec 32 := Scalar.addi v47 v46
  let v54 : BitVec 32 := Scalar.select v52 v53 v47
  let c16384_i32_35 : BitVec 32 := 16384#32
  let v55 : BitVec 32 := Scalar.muli v54 c16384_i32_35
  let c8192_i32 : BitVec 32 := 8192#32
  let v56 : BitVec 32 := Scalar.addi v55 c8192_i32
  let c0_i32_47 : BitVec 32 := 0#32
  ![v56.toNat, 0]
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_45 : BitVec 32 := 1#32
  let v65 : BitVec 32 := Scalar.muli v14 c1_i32_45
  let v66 : BitVec 32 := Scalar.addi c0_i32_46 v65
  v66.toNat
def k0_off3 (d0 : Dev nD) (c0_i32_63 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32_50 : BitVec 32 := 16384#32
  let v73 : BitVec 32 := Scalar.muli v2 c16384_i32_50
  let v84 : BitVec 32 := Scalar.addi v73 c0_i32_63
  let c0_i32_66 : BitVec 32 := 0#32
  ![v84.toNat, 0]
def k0_off4 (d0 : Dev nD) (c0_i32_231 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_229 : BitVec 32 := 4#32
  let v242 : BitVec 32 := Scalar.addi v2 c4_i32_229
  let c1_i32_230 : BitVec 32 := 1#32
  let v243 : BitVec 32 := Scalar.subi v242 c1_i32_230
  let v244 : BitVec 32 := Scalar.subi v243 c0_i32_231
  let c4_i32_232 : BitVec 32 := 4#32
  let c0_i32_233 : BitVec 32 := 0#32
  let v245 : BitVec 1 := Scalar.cmpi .eq c4_i32_232 c0_i32_233
  let c1_i32_234 : BitVec 32 := 1#32
  let v246 : BitVec 32 := Scalar.select v245 c1_i32_234 c4_i32_232
  let v247 : BitVec 32 := Scalar.remsi v244 v246
  let c0_i32_236 : BitVec 32 := 0#32
  let v249 : BitVec 1 := Scalar.cmpi .slt v247 c0_i32_236
  let c0_i32_237 : BitVec 32 := 0#32
  let v250 : BitVec 1 := Scalar.cmpi .slt v246 c0_i32_237
  let v251 : BitVec 1 := Scalar.xori v249 v250
  let c0_i32_235 : BitVec 32 := 0#32
  let v248 : BitVec 1 := Scalar.cmpi .ne v247 c0_i32_235
  let v252 : BitVec 1 := Scalar.andi v251 v248
  let v253 : BitVec 32 := Scalar.addi v247 v246
  let v254 : BitVec 32 := Scalar.select v252 v253 v247
  let c16384_i32_238 : BitVec 32 := 16384#32
  let v255 : BitVec 32 := Scalar.muli v254 c16384_i32_238
  let c0_i32_243 : BitVec 32 := 0#32
  ![v255.toNat, 0]
def k0_off5 (d0 : Dev nD) (c0_i32_247 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_246 : BitVec 32 := 1#32
  let v262 : BitVec 32 := Scalar.addi v2 c1_i32_246
  let v263 : BitVec 32 := Scalar.addi v262 c0_i32_247
  let c4_i32_248 : BitVec 32 := 4#32
  let c0_i32_249 : BitVec 32 := 0#32
  let v264 : BitVec 1 := Scalar.cmpi .eq c4_i32_248 c0_i32_249
  let c1_i32_250 : BitVec 32 := 1#32
  let v265 : BitVec 32 := Scalar.select v264 c1_i32_250 c4_i32_248
  let v266 : BitVec 32 := Scalar.remsi v263 v265
  let c0_i32_252 : BitVec 32 := 0#32
  let v268 : BitVec 1 := Scalar.cmpi .slt v266 c0_i32_252
  let c0_i32_253 : BitVec 32 := 0#32
  let v269 : BitVec 1 := Scalar.cmpi .slt v265 c0_i32_253
  let v270 : BitVec 1 := Scalar.xori v268 v269
  let c0_i32_251 : BitVec 32 := 0#32
  let v267 : BitVec 1 := Scalar.cmpi .ne v266 c0_i32_251
  let v271 : BitVec 1 := Scalar.andi v270 v267
  let v272 : BitVec 32 := Scalar.addi v266 v265
  let v273 : BitVec 32 := Scalar.select v271 v272 v266
  let c16384_i32_254 : BitVec 32 := 16384#32
  let v274 : BitVec 32 := Scalar.muli v273 c16384_i32_254
  let c8192_i32_255 : BitVec 32 := 8192#32
  let v275 : BitVec 32 := Scalar.addi v274 c8192_i32_255
  let c0_i32_260 : BitVec 32 := 0#32
  ![v275.toNat, 0]
def k0_dev5 (d0 : Dev nD) : Nat :=
  let c0_i32_287 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_286 : BitVec 32 := 1#32
  let v311 : BitVec 32 := Scalar.muli v25 c1_i32_286
  let v312 : BitVec 32 := Scalar.addi c0_i32_287 v311
  v312.toNat
def k0_dev6 (d0 : Dev nD) : Nat :=
  let c0_i32_293 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_292 : BitVec 32 := 1#32
  let v319 : BitVec 32 := Scalar.muli v14 c1_i32_292
  let v320 : BitVec 32 := Scalar.addi c0_i32_293 v319
  v320.toNat
def k0_dev7 (d0 : Dev nD) : Nat :=
  let c0_i32_354 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_353 : BitVec 32 := 1#32
  let v396 : BitVec 32 := Scalar.muli v25 c1_i32_353
  let v397 : BitVec 32 := Scalar.addi c0_i32_354 v396
  v397.toNat
def k0_dev8 (d0 : Dev nD) : Nat :=
  let c0_i32_360 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_359 : BitVec 32 := 1#32
  let v404 : BitVec 32 := Scalar.muli v14 c1_i32_359
  let v405 : BitVec 32 := Scalar.addi c0_i32_360 v404
  v405.toNat
-- ==== ReferenceIdeal.lean ====
abbrev S65536x1024 : Shape := ⟨2, ![65536, 1024]⟩

abbrev nBuf : Space → Nat
  | .hbm => 1
  | .vmem => 0
  | .smem => 0
  | _ => 0

abbrev bufTy : (tb : Table) → Fin (tcTables nBuf tb) → BufTy
  | .hbm, ⟨0, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.ReferenceIdeal.Run.lean ====
/-
The reference's run: it returns its argument, so its memory stays as it is.
-/
module

public import proofs.«01_k».proof.Proof.Gen.ReferenceIdeal
public import Idealize.ShloMosaic.Lib.StableHlo.Run
public import Idealize.ShloMosaic.Lib.Quiescent

@[expose] public section

noncomputable section

namespace Cert.ReferenceIdealProof

open Cert.ReferenceIdeal Cert.ReferenceIdeal.Gen
open Idealize.ShloMosaic Idealize.ShloMosaic.TcCoe Idealize.ShloMosaic.StableHlo Idealize.SL.Sem

variable {F : FTy → Type} [FloatOps F]

/-- Every fair execution ends, with the argument, which is also the result, as it was and every semaphore at zero. -/
theorem run_main (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)) ∧ r.2.sem = fun _ => 0) :=
  (θ_run _ _ _).mono (fun r h => ⟨fun c => h c main_arg0, sem_eq_zero_of_no_sems (by decide) r.2⟩)
    (run_seq (by decide) (by decide) defs main (fun _ => []) (fun _ => rfl) (fun _ => trivial) m ρ)

end Cert.ReferenceIdealProof
-- ==== Proof.KernelIdeal.Rows.lean ====
/-
The ring and the rows: which device follows which, whose block a half of the gathered
array holds, and what the slices of the kernel are as sets of rows and as contents.

Four devices stand in a ring. A half travels in one of two directions, named by a `Bool`:
`true` sends to the next device and carries the upper half of every block, `false` sends to
the device before and carries the lower half. The gathered array has 65536 rows; the block
of device `o` is rows `16384 * o` up to `16384 * (o + 1)`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit
public import Idealize.ShloMosaic.Lib.Transfers
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI

variable {F : FTy → Type} [FloatOps F]

/-! ## The ring -/

/-- The device a half travelling in direction `b` goes to from `c`. -/
def fwd (b : Bool) (c : Dev nD) : Dev nD := if b then c + 1 else c - 1
/-- The device it comes from. -/
abbrev bwd (b : Bool) (c : Dev nD) : Dev nD := fwd (!b) c

theorem fwd_bwd (b : Bool) (c : Dev nD) : fwd b (bwd b c) = c := by revert b c; decide
theorem bwd_fwd (b : Bool) (c : Dev nD) : bwd b (fwd b c) = c := by revert b c; decide
theorem fwd_inj (b : Bool) {c d : Dev nD} : fwd b c = fwd b d ↔ c = d := by revert b c d; decide
theorem fwd_eq_iff (b : Bool) {c d : Dev nD} : fwd b c = d ↔ c = bwd b d := by revert b c d; decide

/-- Whose half `c` holds after `h` steps in direction `b`. -/
def org (b : Bool) (c : Dev nD) (h : Fin 4) : Dev nD := if b then c - h else c + h

theorem org_zero (b : Bool) (c : Dev nD) : org b c 0 = c := by revert b c; decide
theorem org_fwd (b : Bool) (c : Dev nD) (h : Fin 3) : org b (fwd b c) h.succ = org b c h.castSucc := by revert b c h; decide

/-! ## The kernel's offsets -/

theorem dev1_eq (c : Dev nD) : (⟨k0_dev1 c, k0_dev1_lt c⟩ : Dev nD) = bwd true c := by revert c; decide +kernel
theorem dev2_eq (c : Dev nD) : (⟨k0_dev2 c, k0_dev2_lt c⟩ : Dev nD) = bwd false c := by revert c; decide +kernel
theorem dev3_eq (c : Dev nD) : (⟨k0_dev3 c, k0_dev3_lt c⟩ : Dev nD) = fwd true c := by revert c; decide +kernel
theorem dev4_eq (c : Dev nD) : (⟨k0_dev4 c, k0_dev4_lt c⟩ : Dev nD) = fwd false c := by revert c; decide +kernel
theorem dev5_eq (c : Dev nD) : (⟨k0_dev5 c, k0_dev5_lt c⟩ : Dev nD) = fwd true c := by revert c; decide +kernel
theorem dev6_eq (c : Dev nD) : (⟨k0_dev6 c, k0_dev6_lt c⟩ : Dev nD) = fwd false c := by revert c; decide +kernel
theorem dev7_eq (c : Dev nD) : (⟨k0_dev7 c, k0_dev7_lt c⟩ : Dev nD) = fwd true c := by revert c; decide +kernel
theorem dev8_eq (c : Dev nD) : (⟨k0_dev8 c, k0_dev8_lt c⟩ : Dev nD) = fwd false c := by revert c; decide +kernel

/-- Where the half that travels in direction `b` starts inside a block. -/
def hs (b : Bool) : ℕ := if b then 0 else 8192
/-- Where it starts in the gathered array, for the block of device `o`. -/
def st (b : Bool) (o : Dev nD) : ℕ := 16384 * o.val + hs b

theorem off1_eq (c : Dev nD) (h : Fin 3) : k0_off1 c (BitVec.ofNat 32 h.val) = ![st true (org true c h.castSucc), 0] := by
  revert c h; decide +kernel
theorem off2_eq (c : Dev nD) (h : Fin 3) : k0_off2 c (BitVec.ofNat 32 h.val) = ![st false (org false c h.castSucc), 0] := by
  revert c h; decide +kernel

/-! ## Sets of rows -/

/-- Rows `a` up to `a + n` of the gathered array. -/
def rowsO (a n : ℕ) : Finset S65536x1024.Idx := Finset.univ.filter fun i => a ≤ (i 0).val ∧ (i 0).val < a + n
/-- Rows `a` up to `a + n` of a block. -/
def rowsX (a n : ℕ) : Finset S16384x1024.Idx := Finset.univ.filter fun i => a ≤ (i 0).val ∧ (i 0).val < a + n

theorem mem_rowsO {a n : ℕ} {i : S65536x1024.Idx} : i ∈ rowsO a n ↔ a ≤ (i 0).val ∧ (i 0).val < a + n := by
  simp [rowsO]
theorem mem_rowsX {a n : ℕ} {i : S16384x1024.Idx} : i ∈ rowsX a n ↔ a ≤ (i 0).val ∧ (i 0).val < a + n := by
  simp [rowsX]

theorem rowsO_add (a n k : ℕ) : rowsO a (n + k) = rowsO a n ∪ rowsO (a + n) k := by
  ext i; simp only [Finset.mem_union, mem_rowsO]; omega
theorem rowsO_disj {a n b k : ℕ} (h : a + n ≤ b ∨ b + k ≤ a) : Disjoint (rowsO a n) (rowsO b k) := by
  rw [Finset.disjoint_left]; intro i hi hj; simp only [mem_rowsO] at hi hj; omega
theorem rowsX_add (a n k : ℕ) : rowsX a (n + k) = rowsX a n ∪ rowsX (a + n) k := by
  ext i; simp only [Finset.mem_union, mem_rowsX]; omega
theorem rowsX_disj {a n b k : ℕ} (h : a + n ≤ b ∨ b + k ≤ a) : Disjoint (rowsX a n) (rowsX b k) := by
  rw [Finset.disjoint_left]; intro i hi hj; simp only [mem_rowsX] at hi hj; omega
theorem rowsX_univ : rowsX 0 16384 = Finset.univ := by
  ext i; simp only [mem_rowsX, Finset.mem_univ, iff_true]; have := (i 0).isLt; simp [S16384x1024] at this; omega
theorem rowsO_univ : rowsO 0 65536 = Finset.univ := by
  ext i; simp only [mem_rowsO, Finset.mem_univ, iff_true]; have := (i 0).isLt; simp [S65536x1024] at this; omega

/-! ## The kernel's slices -/

/-- The argument, the result and the staging buffer, whole. -/
abbrev xM : Memref sig .tc .hbm S16384x1024 .f32 := Memref.whole main_arg0
abbrev oM : Memref sig .tc .hbm S65536x1024 .f32 := Memref.whole main_v1
abbrev vM : Memref sig .tc .vmem S2x2048x1024 .f32 := Memref.whole cc0_scratch0

/-- A half block of the result, of the argument. -/
abbrev oH (off : Fin 2 → ℕ) (inb : ∀ a, off a + S8192x1024.size a ≤ S65536x1024.size a) : Memref sig .tc .hbm S8192x1024 .f32 :=
  oM.slice (Rect.unit (s := S65536x1024) off S8192x1024.size inb) (fun _ => rfl)
abbrev xH (off : Fin 2 → ℕ) (inb : ∀ a, off a + S8192x1024.size a ≤ S16384x1024.size a) : Memref sig .tc .hbm S8192x1024 .f32 :=
  xM.slice (Rect.unit (s := S16384x1024) off S8192x1024.size inb) (fun _ => rfl)
/-- An eighth of a block of the result, of the argument, and a slot of the staging buffer. -/
abbrev oC (off : Fin 2 → ℕ) (inb : ∀ a, off a + S2048x1024.size a ≤ S65536x1024.size a) : Memref sig .tc .hbm S2048x1024 .f32 :=
  oM.slice (Rect.unit (s := S65536x1024) off S2048x1024.size inb) (fun _ => rfl)
abbrev xC (off : Fin 2 → ℕ) (inb : ∀ a, off a + S2048x1024.size a ≤ S16384x1024.size a) : Memref sig .tc .hbm S2048x1024 .f32 :=
  xM.slice (Rect.unit (s := S16384x1024) off S2048x1024.size inb) (fun _ => rfl)
abbrev vC (off : Fin 3 → ℕ) (inb : ∀ a, off a + S1x2048x1024.size a ≤ S2x2048x1024.size a) : Memref sig .tc .vmem S2048x1024 .f32 :=
  (vM.slice (Rect.unit (s := S2x2048x1024) off S1x2048x1024.size inb) (fun _ => rfl)).squeeze S2048x1024 squeezes_S1x2048x1024_S2048x1024

theorem unit_rows {a n x y : ℕ} {sz : Fin 2 → ℕ} (h0 : sz 0 = n) (h1 : sz 1 = 1024) (hy : y < 1024) {i : Fin 2 → ℕ} (hx : i 0 = x)
    (hi : i 1 = y) : (∀ k : Fin 2, ![a, 0] k ≤ i k ∧ i k < ![a, 0] k + sz k) ↔ a ≤ x ∧ x < a + n := by
  rw [Fin.forall_fin_two, h0, h1, hx, hi]
  simp only [Matrix.cons_val_zero, Matrix.cons_val_one]
  omega

theorem oH_set {off : Fin 2 → ℕ} {inb} {a : ℕ} (h : off = ![a, 0]) : (oH off inb).view.set = rowsO a 8192 := by
  subst h; ext i
  refine (ValueKit.mem_set_slice_whole_iff main_v1 _ i Rect.mem_set_unit).trans (Iff.trans ?_ mem_rowsO.symm)
  exact unit_rows (i := fun k => (i k).val) rfl rfl (i 1).isLt rfl rfl
theorem oC_set {off : Fin 2 → ℕ} {inb} {a : ℕ} (h : off = ![a, 0]) : (oC off inb).view.set = rowsO a 2048 := by
  subst h; ext i
  refine (ValueKit.mem_set_slice_whole_iff main_v1 _ i Rect.mem_set_unit).trans (Iff.trans ?_ mem_rowsO.symm)
  exact unit_rows (i := fun k => (i k).val) rfl rfl (i 1).isLt rfl rfl
theorem xH_set {off : Fin 2 → ℕ} {inb} {a : ℕ} (h : off = ![a, 0]) : (xH off inb).view.set = rowsX a 8192 := by
  subst h; ext i
  refine (ValueKit.mem_set_slice_whole_iff main_arg0 _ i Rect.mem_set_unit).trans (Iff.trans ?_ mem_rowsX.symm)
  exact unit_rows (i := fun k => (i k).val) rfl rfl (i 1).isLt rfl rfl

/-! ## What the gathered array holds -/

/-- What a block holds, and what the gathered array holds. -/
abbrev BlockV (F : FTy → Type) : Type := S16384x1024.Idx → Elt F .f32
abbrev GathV (F : FTy → Type) : Type := S65536x1024.Idx → Elt F .f32

/-- The gathered array: row `r` is row `r % 16384` of the block of device `r / 16384`. -/
def gath (X : Dev nD → BlockV F) : GathV F := fun i =>
  X ⟨(i 0).val / 16384, Nat.div_lt_of_lt_mul (i 0).isLt⟩
    (Fin.cons ⟨(i 0).val % 16384, Nat.mod_lt _ (by decide)⟩ (Fin.cons (i 1) finZeroElim))

theorem gath_at (X : Dev nD → BlockV F) (o : Dev nD) {i : S65536x1024.Idx} {j : S16384x1024.Idx}
    (h0 : (i 0).val = 16384 * o.val + (j 0).val) (h1 : (i 1).val = (j 1).val) : gath X i = X o j := by
  have hj : (j 0).val < 16384 := (j 0).isLt
  refine congr (congrArg X (Fin.ext ?_)) (funext fun k => Fin.ext ?_)
  · show (i 0).val / 16384 = o.val; omega
  · match k with
    | ⟨0, _⟩ => show (i 0).val % 16384 = (j 0).val; omega
    | ⟨1, _⟩ => exact h1

/-- A copy into a view leaves `G` on its elements, when the element copied to each is `G`'s there. -/
theorem write_agrees {sp : Space} {s : Shape} {e : EltTy} (v : View sig .tc sp s e) (f G : v.ty.Contents (Elt F)) (w : s.Idx → Elt F e)
    (hw : ∀ x, w x = v.read (Elt F) G x) : ∀ i ∈ v.set, v.write (Elt F) f w Finset.univ i = G i := by
  intro i hi
  obtain ⟨x, -, rfl⟩ := Finset.mem_map.mp hi
  rw [View.write_emb_of_mem _ _ (Finset.mem_univ x), hw x, View.read_apply]
  simp

/-- A half of a block, read from the block or from the gathered array: the same. -/
theorem read_half (X : Dev nD → BlockV F) (b : Bool) (o : Dev nD) {off off' : Fin 2 → ℕ} {inb inb'} (h : off = ![st b o, 0])
    (h' : off' = ![hs b, 0]) (x : S8192x1024.Idx) :
    (xH off' inb').view.read (Elt F) (X o) x = (oH off inb).view.read (Elt F) (gath X) x := by
  subst h h'
  refine (gath_at X o ?_ ?_).symm
  · refine (ValueKit.rect_emb_unit_val (s := S65536x1024) _ _ _ x 0).trans ?_
    refine Eq.trans ?_ (congrArg (16384 * o.val + ·) (ValueKit.rect_emb_unit_val (s := S16384x1024) _ _ _ x 0).symm)
    show st b o + _ = 16384 * o.val + (hs b + _)
    unfold st; omega
  · exact (ValueKit.rect_emb_unit_val (s := S65536x1024) ![st b o, 0] S8192x1024.size inb x 1).trans
      (ValueKit.rect_emb_unit_val (s := S16384x1024) ![hs b, 0] S8192x1024.size inb' x 1).symm

/-- An eighth of a block, likewise. -/
theorem read_eighth (X : Dev nD → BlockV F) (o : Dev nD) (k : ℕ) {off off' : Fin 2 → ℕ} {inb inb'} (h : off = ![16384 * o.val + 2048 * k, 0])
    (h' : off' = ![2048 * k, 0]) (x : S2048x1024.Idx) :
    (xC off' inb').view.read (Elt F) (X o) x = (oC off inb).view.read (Elt F) (gath X) x := by
  subst h h'
  refine (gath_at X o ?_ ?_).symm
  · refine (ValueKit.rect_emb_unit_val (s := S65536x1024) _ _ _ x 0).trans ?_
    refine Eq.trans ?_ (congrArg (16384 * o.val + ·) (ValueKit.rect_emb_unit_val (s := S16384x1024) _ _ _ x 0).symm)
    show 16384 * o.val + 2048 * k + _ = 16384 * o.val + (2048 * k + _)
    omega
  · exact (ValueKit.rect_emb_unit_val (s := S65536x1024) ![16384 * o.val + 2048 * k, 0] S2048x1024.size inb x 1).trans
      (ValueKit.rect_emb_unit_val (s := S16384x1024) ![2048 * k, 0] S2048x1024.size inb' x 1).symm

end Cert.KernelIdealProof
-- ==== Proof.KernelIdeal.Ring.lean ====
/-
The protocol: the semaphores two devices share, what each of them hands to its owner, and what
every device owes at launch.

A device's barrier semaphore collects one unit from each neighbour. The neighbour's unit comes
with the right to write the three halves the owner will send to it. A receive semaphore hands over
the half that has landed, a send semaphore the half that was sent. Each is used once.
-/
module

public import proofs.«01_k».proof.Proof.KernelIdeal.Rows

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The shared semaphores' rounds, and beside them the counters of the transfers a device makes on its own. -/
abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

/-! ## The shared semaphores -/

/-- `none` is the barrier; `some (s, b, h)` is, in direction `b` at step `h`, the send semaphore if `s`, else the receive semaphore. -/
abbrev Cx : Type := Option (Bool × Bool × Fin 3)

abbrev barS : Sem sig := (SemArray.scalar (sig.barrier 0 rfl) : Sems sig S_).sem

abbrev semArr (s b : Bool) : DmaSems sig S3 :=
  match s, b with
  | true, true => cc0_scratch3
  | false, true => cc0_scratch4
  | true, false => cc0_scratch5
  | false, false => cc0_scratch6
theorem inb_step : ∀ h : Fin 3, ∀ a, (![h.val] : Fin 1 → ℕ) a + S1.size a ≤ S3.size a := by decide
abbrev dsem (s b : Bool) (h : Fin 3) : DmaSem sig :=
  (((semArr s b).slice (Rect.unit (s := S3) ![h.val] S1.size (inb_step h))).squeeze S_ squeezes_S1_S_).sem

abbrev ksem : Cx → SemLoc sig
  | none => .reg barS
  | some (s, b, h) => .dma (dsem s b h)
abbrev cell (k : Cx) (c : Dev nD) : GSem nD τ sig := ((c : Thread nD τ), ksem k)

theorem ksem_inj : ∀ k k' : Cx, ksem k = ksem k' → k = k' := by decide +kernel

/-- Which of them a semaphore is. -/
def role (s : SemLoc sig) : Option Cx := ((Finset.univ : Finset Cx).toList).find? fun k => decide (ksem k = s)

theorem role_ksem (k : Cx) : role (ksem k) = some k := by
  unfold role
  cases h : (((Finset.univ : Finset Cx).toList).find? fun k' => decide (ksem k' = ksem k)) with
  | none => exact absurd (List.find?_eq_none.mp h k (Finset.mem_toList.mpr (Finset.mem_univ _))) (by simp)
  | some k' => exact congrArg some (ksem_inj _ _ (by simpa using List.find?_some h))

/-! ## What they hand over -/

variable (m : (ℓ : Loc nD τ sig) → Buf (Elt F) ℓ)

/-- The blocks at launch. -/
def blk (c : Dev nD) : BlockV F := m ((c : Thread nD τ).loc main_arg0)

/-- Rows of a device's result; rows of its block. -/
def oPts (c : Dev nD) (I : Finset S65536x1024.Idx) (f : GathV F) : sProp 𝕄 := ((c : Thread nD τ).loc main_v1) ↦[I]{fullShare} f
def xPts (c : Dev nD) (I : Finset S16384x1024.Idx) (q : PosShare TreeShare) (f : BlockV F) : sProp 𝕄 := ((c : Thread nD τ).loc main_arg0) ↦[I]{q} f

instance oPts_storable (c : Dev nD) (I) (f) : BI.Storable (upEmb : UEmb _ 𝕄) (oPts (F := F) c I f) := by unfold oPts; infer_instance
instance xPts_storable (c : Dev nD) (I) (q) (f) : BI.Storable (upEmb : UEmb _ 𝕄) (xPts (F := F) c I q f) := by unfold xPts; infer_instance

/-- The half of direction `b` of the block of `o`, in the result of `c`. -/
def half (b : Bool) (c o : Dev nD) (f : GathV F) : sProp 𝕄 := oPts c (rowsO (st b o) 8192) f
instance half_storable (b) (c o : Dev nD) (f) : BI.Storable (upEmb : UEmb _ 𝕄) (half (F := F) b c o f) := by unfold half; infer_instance

/-- What `d` lets the device before it (in direction `b`) write: the three halves that will land at `d`. -/
def lent (b : Bool) (d : Dev nD) : sProp 𝕄 :=
  iprop((∃ f, half b d (org b d 1) f) ∗ (∃ f, half b d (org b d 2) f) ∗ (∃ f, half b d (org b d 3) f))
instance lent_storable (b) (d : Dev nD) : BI.Storable (upEmb : UEmb _ 𝕄) (lent (F := F) b d) := by unfold lent; infer_instance

/-- What lands at step `h`, and what was sent at step `h`: at step 0 the device's own half, from its block. -/
def recvPay (b : Bool) (h : Fin 3) (c : Dev nD) : sProp 𝕄 := half b c (org b c h.succ) (gath (blk m))
def sendPay (b : Bool) (h : Fin 3) (c : Dev nD) : sProp 𝕄 :=
  if h = 0 then xPts c (rowsX (hs b) 8192) fullShare.left (blk m c) else half b c (org b c h.castSucc) (gath (blk m))
def pay (s b : Bool) (h : Fin 3) (c : Dev nD) : sProp 𝕄 := if s then sendPay m b h c else recvPay m b h c

/-- The units of one half. -/
abbrev N : ℕ := (oH ![0, 0] (by decide)).view.dmaCredit
theorem N_pos : 0 < N := View.dmaCredit_pos _ (by decide)

def ringRd : Rounds.Schedule (GSem nD τ sig) Bool 𝕄 where
  duties g r := if r = 0 ∧ g.1.2 = .tc then (match role g.2 with | none => ∅ | some none => Finset.univ | some (some _) => {false}) else ∅
  unitless _ := False
  amount g _ _ := match role g.2 with | some (some _) => N | _ => 1
  payload g _ d := match role g.2 with
    | some none => lent d (fwd d g.1.1)
    | some (some (s, b, h)) => pay m s b h g.1.1
    | none => iprop(emp)
  amount_pos g _ _ _ := by
    split
    · exact N_pos
    · exact Nat.one_pos

instance ringRd_payload_storable (g : GSem nD τ sig) (r : ℕ) (d : Bool) :
    BI.Storable (upEmb : UEmb _ 𝕄) ((ringRd (F := F) m).payload g r d) := by
  dsimp only [ringRd]
  split
  · infer_instance
  · unfold pay sendPay recvPay; (repeat' split) <;> infer_instance
  · infer_instance

section Sched
variable (c : Dev nD)

theorem duties_bar : (ringRd (F := F) m).duties (cell none c) 0 = Finset.univ := by
  dsimp only [ringRd]; rw [if_pos ⟨rfl, rfl⟩, role_ksem none]
theorem duties_xfer (k) : (ringRd (F := F) m).duties (cell (some k) c) 0 = {false} := by
  dsimp only [ringRd]; rw [if_pos ⟨rfl, rfl⟩, role_ksem (some k)]
theorem duties_later (g : GSem nD τ sig) : ∀ r, 1 ≤ r → (ringRd (F := F) m).duties g r = ∅ :=
  fun r hr => by dsimp only [ringRd]; rw [if_neg fun h => by omega]
theorem amount_bar (d : Bool) : (ringRd (F := F) m).amount (cell none c) 0 d = 1 := by
  dsimp only [ringRd]; rw [role_ksem none]
theorem amount_xfer (k) (d : Bool) : (ringRd (F := F) m).amount (cell (some k) c) 0 d = N := by
  dsimp only [ringRd]; rw [role_ksem (some k)]
theorem payload_bar (d : Bool) : (ringRd (F := F) m).payload (cell none c) 0 d = lent d (fwd d c) := by
  dsimp only [ringRd]; rw [role_ksem none]
theorem payload_xfer (s b : Bool) (h : Fin 3) (d : Bool) : (ringRd (F := F) m).payload (cell (some (s, b, h)) c) 0 d = pay m s b h c := by
  dsimp only [ringRd]; rw [role_ksem (some (s, b, h))]
theorem expect_bar : (ringRd (F := F) m).expect (cell none c) 0 = 2 := by
  unfold Schedule.expect Schedule.amountOf
  rw [duties_bar, Finset.sum_congr rfl fun d _ => amount_bar m c d, Finset.sum_const, Finset.card_univ, Fintype.card_bool, smul_eq_mul]
theorem expect_xfer (k) : (ringRd (F := F) m).expect (cell (some k) c) 0 = N := by
  unfold Schedule.expect Schedule.amountOf; rw [duties_xfer, Finset.sum_singleton, amount_xfer]
theorem rest_bar : bigSep ((ringRd (F := F) m).duties (cell none c) 0 \ ∅) (fun d => (ringRd (F := F) m).payload (cell none c) 0 d)
    = iprop(lent true (fwd true c) ∗ lent false (fwd false c)) := by
  rw [Finset.sdiff_empty, duties_bar, bigSep_univ_eq_bigSepL [true, false] (by decide) (by decide), bigSepL_cons_cons, bigSepL_singleton,
    payload_bar, payload_bar]
  rfl
theorem rest_xfer (s b : Bool) (h : Fin 3) :
    bigSep ((ringRd (F := F) m).duties (cell (some (s, b, h)) c) 0 \ ∅) (fun d => (ringRd (F := F) m).payload (cell (some (s, b, h)) c) 0 d)
      = pay m s b h c := by
  rw [Finset.sdiff_empty, duties_xfer, bigSep_singleton, payload_xfer]

end Sched

/-! ## What is owed, and the levels -/

/-- The tallies of a list of debts, the first debt the last summand. -/
def owe : List (GSem nD τ sig × ℕ) → CellTallies nD τ sig Unit
  | [] => 0
  | (g, n) :: l => owe l + tallyAt g () n

theorem owe_pos {l : List (GSem nD τ sig × ℕ)} {g : GSem nD τ sig} {u : Unit} (h : 0 < owe l g u) : ∃ p ∈ l, p.1 = g := by
  induction l with
  | nil => exact absurd h (Nat.lt_irrefl 0)
  | cons p l ih =>
    obtain ⟨g', n⟩ := p
    unfold owe at h
    rw [Pi.add_apply, Finsupp.add_apply, tallyAt_apply] at h
    by_cases hg : g = g' ∧ u = ()
    · exact ⟨(g', n), List.mem_cons_self, hg.1.symm⟩
    · rw [if_neg hg] at h
      obtain ⟨p, hp, e⟩ := ih h
      exact ⟨p, List.mem_cons_of_mem _ hp, e⟩

/-- What a device owes at launch, in the order it pays: a unit to each neighbour's barrier, then the six halves it sends. -/
abbrev dueR (b : Bool) (h : Fin 3) (c : Dev nD) : GSem nD τ sig × ℕ := (cell (some (false, b, h)) (fwd b c), N)
abbrev dueB (b : Bool) (c : Dev nD) : GSem nD τ sig × ℕ := (cell none (bwd b c), 1)
abbrev dues (c : Dev nD) : List (GSem nD τ sig × ℕ) :=
  [dueB true c, dueB false c, dueR true 0 c, dueR false 0 c, dueR true 1 c, dueR false 1 c, dueR true 2 c, dueR false 2 c]

def L (g : GSem nD τ sig) : Finset Unit := if g.1.2 = .tc then {()} else ∅
/-- The barriers at level 1, the receive semaphores of step `h` at `2 + h`, everything else at 0. -/
def lev (s : SemLoc sig) : ℕ := match role s with | some none => 1 | some (some (false, _, h)) => 2 + h.val | _ => 0
def lv (g : GSem nD τ sig) (_ : Unit) : ℕ := lev g.2

theorem L_of_ne (g : GSem nD τ sig) (h : g.1.2 ≠ .tc) : L g = ∅ := if_neg h
theorem L_tc (c : Dev nD) (sm : SemLoc sig) : L ((c : Thread nD τ), sm) = {()} := if_pos rfl
theorem lev_bar : lev (ksem none) = 1 := by unfold lev; rw [role_ksem none]
theorem lev_recv (b : Bool) (h : Fin 3) : lev (ksem (some (false, b, h))) = 2 + h.val := by unfold lev; rw [role_ksem (some (false, b, h))]
theorem lev_send (b : Bool) (h : Fin 3) : lev (ksem (some (true, b, h))) = 0 := by unfold lev; rw [role_ksem (some (true, b, h))]

/-- A device may wait on a semaphore below every semaphore it owes. -/
theorem mayWait (c : Dev nD) (sm : SemLoc sig) (l : List (GSem nD τ sig × ℕ)) (hl : ∀ p ∈ l, p.1.1.2 = .tc ∧ lev sm < lev p.1.2) :
    (levAts L lv : sProp 𝕄) ⊢ MayWait (c : Thread nD τ) sm () (owe l) :=
  MayOwe.of_cut (L := L) (lev := lv) (lev sm) (fun p hp => by rw [Finset.mem_singleton.mp hp, L_tc]; exact Finset.mem_singleton_self _)
    (fun g u hg => by
      obtain ⟨p, hp, rfl⟩ := owe_pos hg
      unfold L; rw [if_pos (hl p hp).1]; exact Finset.mem_singleton_self _)
    (fun p hp => by rw [Finset.mem_singleton.mp hp]; exact le_refl _)
    (fun g u hg => by obtain ⟨p, hp, rfl⟩ := owe_pos hg; exact (hl p hp).2)

/-- A device owing the debts `l`, whatever it has waited on. -/
def Owes (c : Dev nD) (l : List (GSem nD τ sig × ℕ)) : sProp 𝕄 := iprop(∃ W : Waits sig Unit, owes (c : Thread nD τ) (owe l) W)

/-! ## The records -/

variable (K : Dev nD × Cx → ℕ)

/-- Every shared semaphore's invariant, and that its one round has begun. -/
def records : sProp 𝕄 :=
  iprop((bigSep Finset.univ fun ck : Dev nD × Cx => cellInv ER (ringRd m) (K ck) (cell ck.2 ck.1))
    ∗ bigSep Finset.univ fun ck : Dev nD × Cx => reached ER (cell ck.2 ck.1) 0)
instance records_persistent : BI.Persistent (records m K) := by unfold records; infer_instance

theorem rec_at (k : Cx) (c : Dev nD) : records m K ⊢ iprop(cellInv ER (ringRd m) (K (c, k)) (cell k c) ∗ reached ER (cell k c) 0) := by
  unfold records
  iintro ⟨H, R⟩
  isplitl [H]
  · iapply (show (bigSep Finset.univ fun ck : Dev nD × Cx => (cellInv ER (ringRd m) (K ck) (cell ck.2 ck.1) : sProp 𝕄)) ⊢ cellInv ER (ringRd m) (K (c, k)) (cell k c)
      from bigSep_elim (Finset.mem_univ (c, k)))
    iexact H
  · iapply (show (bigSep Finset.univ fun ck : Dev nD × Cx => (reached ER (cell ck.2 ck.1) 0 : sProp 𝕄)) ⊢ reached ER (cell k c) 0
      from bigSep_elim (Finset.mem_univ (c, k)))
    iexact R

end Cert.KernelIdealProof
-- ==== Proof.KernelIdeal.Chunk.lean ====
/-
The local copy: an eighth of the block at a time, through a slot of the staging buffer into the
device's own block of the result.
-/
module

public import proofs.«01_k».proof.Proof.KernelIdeal.Ring

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A semaphore no other device touches is at level 0. -/
theorem lev_other (s : SemLoc sig) (h : ∀ k, ksem k ≠ s) : lev s = 0 := by
  unfold lev role
  rw [List.find?_eq_none.mpr fun k _ => by simpa using h k]

/-- A transfer a device makes on its own, and the wait for it. -/
theorem copy_step {α : Type} {Q : α → sProp 𝕄} {k : PUnit → Prog (TpuEff nD τ sig (Elt F) Λ₀ .tc) α} (c : Dev nD)
    (l : List (GSem nD τ sig × ℕ)) {sm : DmaSem sig} (hsm : lev (.dma sm) = 0) (hl : ∀ p ∈ l, p.1.1.2 = .tc ∧ 0 < lev p.1.2)
    {sp sp' spw spw' : Space} {s s₁ s₂ : Shape} {e e₁ e₂ : EltTy} {src : Memref sig .tc sp s e} {dst : Memref sig .tc sp' s e}
    {hsrc : src.view.WordExact} {hdst : dst.view.WordExact} {hsem : DmaTarget.Typed (nD := nD) (τ := τ) (p := .tc) sp (.dma sm) (.here dst)}
    {srcw : Memref sig .tc spw s₁ e₁} {dstw : Memref sig .tc spw' s₂ e₂} {hsrcw : srcw.view.WordExact} {hdstw : dstw.view.WordExact}
    (hN : dstw.view.dmaCredit = dst.view.dmaCredit) (hN0 : 0 < dst.view.dmaCredit)
    {q : PosShare TreeShare} {fs : Buf (Elt F) (src.view.loc (c : Thread nD τ))} {Sd : Finset (Idx (dst.view.loc (c : Thread nD τ)))}
    {fd : Buf (Elt F) (dst.view.loc (c : Thread nD τ))} (hSd : dst.view.set ⊆ Sd) :
    iprop(levAts L lv ∗ Owes c l ∗ semVal ((c : Thread nD τ), .dma sm) 0 ∗ (src.view.loc (c : Thread nD τ) ↦[src.view.set]{q} fs)
        ∗ (dst.view.loc (c : Thread nD τ) ↦[Sd]{fullShare} fd))
      ⊢ iprop(((Owes c l ∗ semVal ((c : Thread nD τ), .dma sm) 0 ∗ (src.view.loc (c : Thread nD τ) ↦[src.view.set]{q} fs)
              ∗ (dst.view.loc (c : Thread nD τ) ↦[Sd]{fullShare} (dst.view.write (Elt F) fd (src.view.read (Elt F) fs) Finset.univ)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma sm) hsrc hdst hsem) fun _ => .op (.waitDma2 sm srcw dstw hsrcw hdstw) k) Q) := by
  unfold Owes
  iintro ⟨#Hlev, ⟨%W, HO⟩, Hz, Hs, Hd⟩ Hk
  iapply (Transfers.wp_dmaLocal countersEmb 𝒱₀ (c : Thread nD τ) none (hsrc := hsrc) (hdst := hdst) (hsem := hsem) () dst.view.dmaCredit rfl hN0 hSd) $$ [Hz Hs Hd]
  · isplitl [Hs]; · iexact Hs
    isplitl [Hd]; · iexact Hd
    iexact Hz
  iintro Hfl
  iapply (Transfers.wp_waitLocalO countersEmb 𝒱₀ (c : Thread nD τ) none () hN (O := owe l) (W := W)) $$ [Hfl HO]
  · isplitl [Hfl]; · iexact Hfl
    isplitl [HO]; · iexact HO
    iapply (mayWait (F := F) c (.dma sm) l (by rw [hsm]; exact hl)); iexact Hlev
  iintro ⟨⟨Hd, Hs⟩, Hz, HO⟩
  iapply Hk
  isplitl [HO]; · iexists _; iexact HO
  isplitl [Hz]; · iexact Hz
  isplitl [Hs]; · iexact Hs
  iexact Hd

/-- The staging buffer; the device's own block of the result, its first `k` eighths copied. -/
def stage (c : Dev nD) : sProp 𝕄 := iprop(∃ f : Buf (Elt F) ((c : Thread nD τ).loc cc0_scratch0), ((c : Thread nD τ).loc cc0_scratch0) ↦{fullShare} f)
def own (c : Dev nD) (k : ℕ) : sProp 𝕄 :=
  iprop(∃ f : GathV F, ⌜∀ i ∈ rowsO (16384 * c.val) (2048 * k), f i = gath (blk m) i⌝ ∗ oPts c (rowsO (16384 * c.val) 16384) f)

/-- An eighth copied. -/
theorem chunk_step {α : Type} {Q : α → sProp 𝕄} {kt : PUnit → Prog (TpuEff nD τ sig (Elt F) Λ₀ .tc) α} (c : Dev nD)
    (l : List (GSem nD τ sig × ℕ)) (hl : ∀ p ∈ l, p.1.1.2 = .tc ∧ 0 < lev p.1.2) (k : ℕ) (hk : k < 8)
    {si so : DmaSem sig} (hsi : lev (.dma si) = 0) (hso : lev (.dma so) = 0)
    {xo oo : Fin 2 → ℕ} {vo : Fin 3 → ℕ} {xinb oinb vinb} (hxo : xo = ![2048 * k, 0]) (hoo : oo = ![16384 * c.val + 2048 * k, 0])
    {w₁ w₂ w₃ w₄ w₅ w₆ w₇ w₈} {t₁ t₂} :
    iprop(levAts L lv ∗ Owes c l ∗ semVal ((c : Thread nD τ), .dma si) 0 ∗ semVal ((c : Thread nD τ), .dma so) 0
        ∗ xPts c Finset.univ fullShare.right (blk m c) ∗ stage c ∗ own m c k)
      ⊢ iprop(((Owes c l ∗ semVal ((c : Thread nD τ), .dma si) 0 ∗ semVal ((c : Thread nD τ), .dma so) 0
              ∗ xPts c Finset.univ fullShare.right (blk m c) ∗ stage c ∗ own m c (k + 1))
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (xC xo xinb) (.here (vC vo vinb)) (.dma si) w₁ w₂ t₁) fun _ =>
                .op (.waitDma2 si (xC xo xinb) (vC vo vinb) w₃ w₄) fun _ =>
                .op (.enqueueDma (vC vo vinb) (.here (oC oo oinb)) (.dma so) w₅ w₆ t₂) fun _ =>
                .op (.waitDma2 so (vC vo vinb) (oC oo oinb) w₇ w₈) kt) Q) := by
  unfold stage own xPts oPts
  iintro ⟨#Hlev, HO, Hi, Ho, Hx, ⟨%fv, Hv⟩, %f, %hf, Hown⟩ Hk
  have hset := oC_set (off := oo) (inb := oinb) hoo
  have hsub : (oC oo oinb).view.set ⊆ rowsO (16384 * c.val) 16384 := by
    rw [hset]; intro i hi; rw [mem_rowsO] at hi ⊢; omega
  ihave H := (pointsTo_split_subset (ℓ := (c : Thread nD τ).loc main_arg0) (q := fullShare.right) (f := blk m c) (S := Finset.univ) (Finset.subset_univ (xC xo xinb).view.set)).1 $$ Hx
  icases H with ⟨Hx, Hxr⟩
  iapply (copy_step (src := xC xo xinb) (dst := vC vo vinb) c l hsi hl rfl (View.dmaCredit_pos _ (by decide)) (fs := blk m c) (fd := fv) (q := fullShare.right) (Finset.subset_univ _)) $$ [HO Hi Hx Hv]
  · isplitr; · iexact Hlev
    isplitl [HO]; · iexact HO
    isplitl [Hi]; · iexact Hi
    isplitl [Hx]; · iexact Hx
    iexact Hv
  iintro ⟨HO, Hi, Hx, Hv⟩
  ihave Hx := (pointsTo_split_subset (ℓ := (c : Thread nD τ).loc main_arg0) (q := fullShare.right) (f := blk m c) (S := Finset.univ) (Finset.subset_univ (xC xo xinb).view.set)).2 $$ [Hx Hxr]
  · isplitl [Hx]; · iexact Hx
    iexact Hxr
  generalize hg : (vC vo vinb).view.write (Elt F) fv ((xC xo xinb).view.read (Elt F) (blk m c)) Finset.univ = g
  have hread : (vC vo vinb).view.read (Elt F) g = (xC xo xinb).view.read (Elt F) (blk m c) := by
    rw [← hg]; exact View.read_write_univ _ _
  ihave H := (pointsTo_split_subset (ℓ := (c : Thread nD τ).loc cc0_scratch0) (q := fullShare) (f := g) (S := Finset.univ) (Finset.subset_univ (vC vo vinb).view.set)).1 $$ Hv
  icases H with ⟨Hv, Hvr⟩
  iapply (copy_step (src := vC vo vinb) (dst := oC oo oinb) c l hso hl rfl (View.dmaCredit_pos _ (by decide)) (fs := g) (fd := f) (q := fullShare) hsub) $$ [HO Ho Hv Hown]
  · isplitr; · iexact Hlev
    isplitl [HO]; · iexact HO
    isplitl [Ho]; · iexact Ho
    isplitl [Hv]; · iexact Hv
    iexact Hown
  iintro ⟨HO, Ho, Hv, Hown⟩
  ihave Hv := (pointsTo_split_subset (ℓ := (c : Thread nD τ).loc cc0_scratch0) (q := fullShare) (f := g) (S := Finset.univ) (Finset.subset_univ (vC vo vinb).view.set)).2 $$ [Hv Hvr]
  · isplitl [Hv]; · iexact Hv
    iexact Hvr
  iapply Hk
  isplitl [HO]; · iexact HO
  isplitl [Hi]; · iexact Hi
  isplitl [Ho]; · iexact Ho
  isplitl [Hx]; · iexact Hx
  isplitl [Hv]; · iexists g; iexact Hv
  iexists _
  isplitr
  rotate_left
  · iexact Hown
  · ipureintro
    intro i hi
    by_cases hi' : i ∈ (oC oo oinb).view.set
    · refine write_agrees (oC oo oinb).view f (gath (blk m)) _ (fun x => ?_) i hi'
      rw [hread]; exact read_eighth (blk m) c k hoo hxo x
    · refine (View.write_of_not_mem _ _ _ hi').trans (hf i ?_)
      rw [hset, mem_rowsO] at hi'; rw [mem_rowsO] at hi ⊢; omega

end Cert.KernelIdealProof
-- ==== Proof.KernelIdeal.Split.lean ====
/-
How a device's result and block split into what the steps pass around, and join again.
-/
module

public import proofs.«01_k».proof.Proof.KernelIdeal.Chunk

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The result -/

theorem halves_cover : (Finset.univ : Finset S65536x1024.Idx) = Finset.univ.biUnion fun p : Bool × Dev nD => rowsO (st p.1 p.2) 8192 := by
  symm; rw [Finset.eq_univ_iff_forall]; intro i
  have hi : (i 0).val < 65536 := (i 0).isLt
  have ho : (i 0).val / 16384 < nD := Nat.div_lt_of_lt_mul hi
  rw [Finset.mem_biUnion]
  by_cases hb : (i 0).val % 16384 < 8192
  · refine ⟨(true, ⟨(i 0).val / 16384, ho⟩), Finset.mem_univ _, mem_rowsO.mpr ?_⟩
    simp only [st, hs, if_true]; omega
  · refine ⟨(false, ⟨(i 0).val / 16384, ho⟩), Finset.mem_univ _, mem_rowsO.mpr ?_⟩
    simp only [st, hs, Bool.false_eq_true, if_false]; omega

theorem halves_disj (p p' : Bool × Dev nD) (h : p ≠ p') : Disjoint (rowsO (st p.1 p.2) 8192) (rowsO (st p'.1 p'.2) 8192) := by
  obtain ⟨b, o⟩ := p; obtain ⟨b', o'⟩ := p'
  refine rowsO_disj ?_
  have ho : b = b' → o.val ≠ o'.val := fun e ev => h (by rw [e, Fin.ext ev])
  simp only [st, hs]
  cases b <;> cases b' <;> simp at ho ⊢ <;> omega

/-- The four devices, by how far a half of direction `b` has come. -/
def orgs (b : Bool) (c : Dev nD) : Fin 4 ≃ Dev nD := Equiv.ofBijective (org b c) (by revert b c; decide)

/-- The whole result is its eight halves. -/
theorem out_eq (c : Dev nD) (f : GathV F) :
    oPts c Finset.univ f = iprop((half true c (org true c 0) f ∗ half true c (org true c 1) f ∗ half true c (org true c 2) f ∗ half true c (org true c 3) f)
      ∗ half false c (org false c 0) f ∗ half false c (org false c 1) f ∗ half false c (org false c 2) f ∗ half false c (org false c 3) f) := by
  have hb (b : Bool) : (bigSep Finset.univ fun o : Dev nD => (half b c o f : sProp 𝕄))
      = iprop(half b c (org b c 0) f ∗ half b c (org b c 1) f ∗ half b c (org b c 2) f ∗ half b c (org b c 3) f) := by
    rw [bigSep_univ_equiv (orgs b c) (fun o : Dev nD => (half b c o f : sProp 𝕄)), bigSep_univ_eq_bigSepL [0, 1, 2, 3] (by decide) (by decide)]
    rfl
  rw [← hb, ← hb]
  unfold half oPts
  rw [halves_cover, pointsTo_biUnion _ _ fun p _ p' _ => halves_disj p p', bigSep_univ_prod, bigSep_univ_eq_bigSepL [true, false] (by decide) (by decide)]
  rfl

theorem rows_own (c : Dev nD) : rowsO (16384 * c.val) 16384 = rowsO (st true c) 8192 ∪ rowsO (st false c) 8192 := by
  have h := rowsO_add (16384 * c.val) 8192 8192
  simpa only [st, hs, if_true, Bool.false_eq_true, if_false, Nat.add_zero] using h

/-- The device's own block of the result is its two halves. -/
theorem own_eq (c : Dev nD) (f : GathV F) :
    oPts c (rowsO (16384 * c.val) 16384) f = iprop(half true c (org true c 0) f ∗ half false c (org false c 0) f) := by
  unfold half oPts
  rw [rows_own, org_zero, org_zero]
  have h : Disjoint (rowsO (st true c) 8192) (rowsO (st false c) 8192) := halves_disj (true, c) (false, c) (by simp)
  exact BI.Entails.antisymm (pointsTo_union h).1 (pointsTo_union h).2

/-- At the start: the own block, and what the device lends its neighbours. -/
theorem out_split (c : Dev nD) : iprop(∃ f, oPts (F := F) c Finset.univ f) ⊢ iprop(own m c 0 ∗ lent true c ∗ lent false c) := by
  iintro ⟨%f, H⟩
  ihave H := (Entails.of_eq (out_eq c f)) $$ H
  icases H with ⟨⟨T0, T1, T2, T3⟩, F0, F1, F2, F3⟩
  unfold own lent
  isplitl [T0 F0]
  · iexists f
    isplitr
    · ipureintro; intro i hi; rw [mem_rowsO] at hi; omega
    ihave H := (Entails.of_eq (own_eq c f).symm) $$ [T0 F0]
    · isplitl [T0]; · iexact T0
      iexact F0
    iexact H
  isplitl [T1 T2 T3]
  · isplitl [T1]; · iexists f; iexact T1
    isplitl [T2]; · iexists f; iexact T2
    iexists f; iexact T3
  · isplitl [F1]; · iexists f; iexact F1
    isplitl [F2]; · iexists f; iexact F2
    iexists f; iexact F3

theorem pay_recv (b : Bool) (h : Fin 3) (c : Dev nD) : pay m false b h c = half b c (org b c h.succ) (gath (blk m)) := by
  unfold pay recvPay; rw [if_neg Bool.false_ne_true]

/-- At the end: the own block copied and the six halves landed are the gathered array. -/
theorem out_join (c : Dev nD) :
    iprop(own m c 8 ∗ (pay m false true 0 c ∗ pay m false true 1 c ∗ pay m false true 2 c) ∗ pay m false false 0 c ∗ pay m false false 1 c ∗ pay m false false 2 c)
      ⊢ oPts c Finset.univ (gath (blk m)) := by
  have p0 (b : Bool) : pay m false b 0 c = half b c (org b c 1) (gath (blk m)) := pay_recv m b 0 c
  have p1 (b : Bool) : pay m false b 1 c = half b c (org b c 2) (gath (blk m)) := pay_recv m b 1 c
  have p2 (b : Bool) : pay m false b 2 c = half b c (org b c 3) (gath (blk m)) := pay_recv m b 2 c
  rw [p0, p0, p1, p1, p2, p2]
  unfold own
  iintro ⟨⟨%f, %hf, H⟩, ⟨T1, T2, T3⟩, F1, F2, F3⟩
  have e : oPts c (rowsO (16384 * c.val) 16384) f = iprop(half true c (org true c 0) (gath (blk m)) ∗ half false c (org false c 0) (gath (blk m))) := by
    rw [← own_eq]; exact pointsTo_congr hf
  ihave H := (Entails.of_eq e) $$ H
  icases H with ⟨T0, F0⟩
  iapply (Entails.of_eq (out_eq c (gath (blk m))).symm)
  isplitl [T0 T1 T2 T3]
  · isplitl [T0]; · iexact T0
    isplitl [T1]; · iexact T1
    isplitl [T2]; · iexact T2
    iexact T3
  · isplitl [F0]; · iexact F0
    isplitl [F1]; · iexact F1
    isplitl [F2]; · iexact F2
    iexact F3

/-! ## The block -/

/-- Half the share of the block goes to the local copy, the other half to the two halves sent first. -/
theorem x_eq (c : Dev nD) : xPts c Finset.univ fullShare (blk m c)
    ⊣⊢ iprop((pay m true true 0 c ∗ pay m true false 0 c) ∗ xPts c Finset.univ fullShare.right (blk m c)) := by
  have h : Disjoint (rowsX (hs true) 8192) (rowsX (hs false) 8192) := rowsX_disj (Or.inl (by simp [hs]))
  have hu : (Finset.univ : Finset S16384x1024.Idx) = rowsX (hs true) 8192 ∪ rowsX (hs false) 8192 := by
    rw [← rowsX_univ]
    have h := rowsX_add 0 8192 8192
    simpa only [hs, if_true, Bool.false_eq_true, if_false, Nat.zero_add] using h
  have e : xPts c Finset.univ fullShare.left (blk m c) ⊣⊢ iprop(pay m true true 0 c ∗ pay m true false 0 c) := by
    unfold pay sendPay xPts
    rw [if_pos rfl, if_pos rfl, if_pos rfl, hu]
    exact pointsTo_union h
  have s := pointsTo_share (ℓ := (c : Thread nD τ).loc main_arg0) (I := Finset.univ) (f := blk m c) (Ix := Unit) (Name := ℕ) (U := UU) (Lvl := ℕ)
    (Val := Elt F) (PosShare.mem_left_op_right fullShare)
  constructor
  · refine s.1.trans ?_
    exact sep_mono_left e.1
  · refine BIBase.Entails.trans ?_ s.2
    exact sep_mono_left e.2

/-! ## What a half is sent from -/

theorem src_block (b : Bool) (c : Dev nD) {off : Fin 2 → ℕ} {inb} (h : off = ![hs b, 0]) :
    ((xH off inb).view.loc (c : Thread nD τ) ↦[(xH off inb).view.set]{fullShare.left} blk m c : sProp 𝕄) = pay m true b 0 c := by
  unfold pay sendPay; rw [xH_set h, if_pos rfl, if_pos rfl]; rfl
theorem src_result (b : Bool) (h : Fin 3) (hh : h ≠ 0) (c : Dev nD) {off : Fin 2 → ℕ} {inb} (hoff : off = ![st b (org b c h.castSucc), 0]) :
    ((oH off inb).view.loc (c : Thread nD τ) ↦[(oH off inb).view.set]{fullShare} gath (blk m) : sProp 𝕄) = pay m true b h c := by
  unfold pay sendPay
  rw [oH_set hoff, if_pos rfl, if_neg hh]; rfl

/-- What has landed is sent on at the next step. -/
theorem pay_one (b : Bool) (c : Dev nD) : pay m false b 0 c = pay m true b 1 c := by
  have h : (1 : Fin 3) ≠ 0 := by decide
  unfold pay sendPay recvPay; rw [if_neg Bool.false_ne_true, if_pos rfl, if_neg h]; rfl
theorem pay_two (b : Bool) (c : Dev nD) : pay m false b 1 c = pay m true b 2 c := by
  have h : (2 : Fin 3) ≠ 0 := by decide
  unfold pay sendPay recvPay; rw [if_neg Bool.false_ne_true, if_pos rfl, if_neg h]; rfl

end Cert.KernelIdealProof
-- ==== Proof.KernelIdeal.Steps.lean ====
/-
One rule for every kind of step the devices take together: the unit to a neighbour's barrier, the
wait at the own barrier, the sending of a half, the wait for a half.
-/
module

public import proofs.«01_k».proof.Proof.KernelIdeal.Ring

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cx → ℕ)
/-- The unit to the neighbour the halves of direction `b` come from: with it, the right to write what will land here. -/
theorem signal_step {α : Type} {Q : α → sProp 𝕄} {k : PUnit → Prog (TpuEff nD τ sig (Elt F) Λ₀ .tc) α} (b : Bool) (c : Dev nD) (l : List (GSem nD τ sig × ℕ)) :
    iprop(records m K ∗ Owes c (dueB b c :: l) ∗ dutyTok ER (cell none (bwd b c)) 0 b ∗ lent b c)
      ⊢ iprop((Owes c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (bwd b c : Thread nD τ) barS 1) k) Q) := by
  unfold Owes
  iintro ⟨HR, ⟨%W, HO⟩, Ht, Hl⟩ Hk
  ihave H := (rec_at m K none (bwd b c)) $$ HR
  icases H with ⟨HI, Hr⟩
  iapply (Rounds.wp_signal 𝒱₀ ER (ringRd m) (c : Thread nD τ) none (dst := (bwd b c : Thread nD τ)) (κ := K (bwd b c, none))
      (d := b) (by rw [duties_bar]; exact Finset.mem_univ _) (amount_bar m (bwd b c) b) () (owe l) rfl) $$ [HI HO Ht Hl Hr]
  · isplitl [HI]; · iexact HI
    isplitl [HO]; · iexact HO
    isplitl [Ht]; · iexact Ht
    isplitl [Hl]
    · rw [payload_bar, fwd_bwd]; iexact Hl
    iexact Hr
  iintro HO
  iapply Hk; iexists W; iexact HO

/-- The wait for both neighbours; the barrier is used up. -/
theorem barrier_step {α : Type} {Q : α → sProp 𝕄} {k : PUnit → Prog (TpuEff nD τ sig (Elt F) Λ₀ .tc) α} (c : Dev nD) (l : List (GSem nD τ sig × ℕ)) (hl : ∀ p ∈ l, p.1.1.2 = .tc ∧ 1 < lev p.1.2) :
    iprop(records m K ∗ levAts L lv ∗ Owes c l ∗ cred (tallyAt (cell none c) () 2) ∗ atPos ER (cell none c) 0 ∅ 0)
      ⊢ iprop(((Owes c l ∗ semVal (cell none c) 0 ∗ lent true (fwd true c) ∗ lent false (fwd false c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 2) k) Q) := by
  unfold Owes
  iintro ⟨#HR, #Hlev, ⟨%W, HO⟩, Hc, Hat⟩ Hk
  ihave H := (rec_at m K none c) $$ HR
  icases H with ⟨#HI, -⟩
  iapply (Rounds.wp_wait_rest_token 𝒱₀ ER (ringRd m) (c : Thread nD τ) none (κ := K (c, none))
      (wpE_semWait_eq 𝒱₀ (c : Thread nD τ) none Set.univ) (Set.mem_univ _) () (O := owe l) (W := W) (R := 0) (m := 0) (T := ∅)
      (by rw [expect_bar])) $$ [Hc HO Hat]
  · isplitr; · iexact HI
    isplitl [Hc]; · iexact Hc
    isplitl [HO]; · iexact HO
    isplitr; · iapply (mayWait (F := F) c (.reg barS) l (by rw [show lev (.reg barS) = 1 from lev_bar]; exact hl)); iexact Hlev
    iexact Hat
  iintro ⟨HO, Hat, -, Hpay⟩
  imod (Rounds.cell_close ER (ringRd m) (Set.mem_univ (K (c, none))) (fun h => h) (R := 0 + 1) (duties_later m (cell none c))) $$ [Hat] with Hz
  · isplitr; · iexact HI
    iexact Hat
  ihave Hp := (Entails.of_eq (rest_bar m c)) $$ Hpay
  iapply Hk
  isplitl [HO]; · iexists _; iexact HO
  isplitl [Hz]; · iexact Hz
  iexact Hp

/-- A wait for a half, sent or received; its semaphore is used up. -/
theorem wait_step {α : Type} {Q : α → sProp 𝕄} {k : PUnit → Prog (TpuEff nD τ sig (Elt F) Λ₀ .tc) α} (s b : Bool) (h : Fin 3) (c : Dev nD) (l : List (GSem nD τ sig × ℕ))
    (hl : ∀ p ∈ l, p.1.1.2 = .tc ∧ lev (ksem (some (s, b, h))) < lev p.1.2)
    {srcw dstw : Memref sig .tc .hbm S8192x1024 .f32} {hsrc : srcw.view.WordExact} {hdst : dstw.view.WordExact} :
    iprop(records m K ∗ levAts L lv ∗ Owes c l ∗ cred (tallyAt (cell (some (s, b, h)) c) () N) ∗ atPos ER (cell (some (s, b, h)) c) 0 ∅ 0)
      ⊢ iprop(((Owes c l ∗ semVal (cell (some (s, b, h)) c) 0 ∗ pay m s b h c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dsem s b h) srcw dstw hsrc hdst) k) Q) := by
  have hN : dstw.view.dmaCredit = N := rfl
  unfold Owes
  rw [← hN]
  iintro ⟨#HR, #Hlev, ⟨%W, HO⟩, Hc, Hat⟩ Hk
  ihave H := (rec_at m K (some (s, b, h)) c) $$ HR
  icases H with ⟨#HI, -⟩
  iapply (Rounds.wp_wait_rest_token 𝒱₀ ER (ringRd m) (c : Thread nD τ) none (κ := K (c, some (s, b, h)))
      (wpE_waitDma2_eq 𝒱₀ (c : Thread nD τ) none Set.univ) (Set.mem_univ _) () (O := owe l) (W := W) (R := 0) (m := 0) (T := ∅)
      (by rw [hN, Nat.zero_add]; exact (expect_xfer m c (s, b, h)).symm)) $$ [Hc HO Hat]
  · isplitr; · iexact HI
    isplitl [Hc]; · iexact Hc
    isplitl [HO]; · iexact HO
    isplitr; · iapply (mayWait (F := F) c (.dma (dsem s b h)) l hl); iexact Hlev
    iexact Hat
  iintro ⟨HO, Hat, -, Hpay⟩
  imod (Rounds.cell_close ER (ringRd m) (Set.mem_univ (K (c, some (s, b, h)))) (fun h => h) (R := 0 + 1) (duties_later m (cell (some (s, b, h)) c))) $$ [Hat] with Hz
  · isplitr; · iexact HI
    iexact Hat
  ihave Hp := (Entails.of_eq (rest_xfer m c s b h)) $$ Hpay
  iapply Hk
  isplitl [HO]; · iexists _; iexact HO
  isplitl [Hz]; · iexact Hz
  iexact Hp

/-- The sending of a half in direction `b` at step `h`: from the rows that hold it, to the rows the receiver lent. -/
theorem send_step {α : Type} {Q : α → sProp 𝕄} {k : PUnit → Prog (TpuEff nD τ sig (Elt F) Λ₀ .tc) α} (b : Bool) (h : Fin 3) (c n : Dev nD) (hn : n = fwd b c) (l : List (GSem nD τ sig × ℕ))
    {src : Memref sig .tc .hbm S8192x1024 .f32} {off : Fin 2 → ℕ} {inb} (hoff : off = ![st b (org b c h.castSucc), 0])
    {hsc : (oH off inb : Memref sig (Dev.tc n : Thread nD τ).2.kind .hbm S8192x1024 .f32).view.ref.isScScratch = false}
    {hsrc : src.view.WordExact} {hdst : (oH off inb).view.WordExact}
    {hsem : DmaTarget.Typed .hbm (.dma (dsem false b h)) (.remote (Dev.tc n : Thread nD τ) (oH off inb) (.dma (dsem true b h)) hsc)}
    {q : PosShare TreeShare} {fs : Buf (Elt F) (src.view.loc (c : Thread nD τ))}
    (hval : ∀ x, src.view.read (Elt F) fs x = (oH off inb).view.read (Elt F) (gath (blk m)) x)
    (hsend : (src.view.loc (c : Thread nD τ) ↦[src.view.set]{q} fs : sProp 𝕄) = pay m true b h c) :
    iprop(records m K ∗ Owes c (dueR b h c :: l) ∗ dutyTok ER (cell (some (true, b, h)) c) 0 false
        ∗ dutyTok ER (cell (some (false, b, h)) (fwd b c)) 0 false ∗ pay m true b h c ∗ (∃ f, half b (fwd b c) (org b (fwd b c) h.succ) f))
      ⊢ iprop(((Owes c l ∗ cred (tallyAt (cell (some (true, b, h)) c) () N))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) (oH off inb) (.dma (dsem true b h)) hsc) (.dma (dsem false b h)) hsrc hdst hsem) k) Q) := by
  subst hn
  have hset := oH_set (off := off) (inb := inb) hoff
  have hd (f : GathV F) : half b (fwd b c) (org b (fwd b c) h.succ) f
      = ((oH off inb).view.loc (Dev.tc (fwd b c) : Thread nD τ) ↦[(oH off inb).view.set]{fullShare} f : sProp 𝕄) := by
    unfold half oPts; rw [hset, org_fwd]
  unfold Owes
  rw [← hsend]
  iintro ⟨#HR, ⟨%W, HO⟩, Ht, Ht', Hs, ⟨%f, Hd⟩⟩ Hk
  ihave H := (rec_at m K (some (true, b, h)) c) $$ HR
  icases H with ⟨#HI, #Hr⟩
  ihave H := (rec_at m K (some (false, b, h)) (fwd b c)) $$ HR
  icases H with ⟨#HI', #Hr'⟩
  ihave Hd' := (Entails.of_eq (hd f)) $$ Hd
  have e1 : cell (some (true, b, h)) c = ((c : Thread nD τ), SemLoc.dma (dsem true b h)) := rfl
  have e2 : cell (some (false, b, h)) (fwd b c) = ((Dev.tc (fwd b c) : Thread nD τ), SemLoc.dma (dsem false b h)) := rfl
  have d1 : false ∈ (ringRd m).duties ((c : Thread nD τ), SemLoc.dma (dsem true b h)) 0 := by
    rw [← e1, duties_xfer]; exact Finset.mem_singleton_self _
  have d2 : false ∈ (ringRd m).duties ((Dev.tc (fwd b c) : Thread nD τ), SemLoc.dma (dsem false b h)) 0 := by
    rw [← e2, duties_xfer]; exact Finset.mem_singleton_self _
  have p1 : (src.view.loc (c : Thread nD τ) ↦[src.view.set]{q} fs) ⊢ (ringRd m).payload ((c : Thread nD τ), SemLoc.dma (dsem true b h)) 0 false := by
    rw [← e1, payload_xfer, hsend]
  have p2 : ((oH off inb).view.loc (Dev.tc (fwd b c) : Thread nD τ) ↦[(oH off inb).view.set]{fullShare} ((oH off inb).view.write (Elt F) f (src.view.read (Elt F) fs) Finset.univ))
      ⊢ (ringRd m).payload ((Dev.tc (fwd b c) : Thread nD τ), SemLoc.dma (dsem false b h)) 0 false := by
    rw [← e2, payload_xfer]
    show _ ⊢ recvPay m b h (fwd b c)
    unfold recvPay
    rw [hd]
    exact Entails.of_eq (pointsTo_congr (write_agrees _ _ _ _ hval))
  have a1 : (ringRd m).amount ((c : Thread nD τ), SemLoc.dma (dsem true b h)) 0 false = N := amount_xfer m c (true, b, h) false
  have a2 : (ringRd m).amount ((Dev.tc (fwd b c) : Thread nD τ), SemLoc.dma (dsem false b h)) 0 false = N := amount_xfer m (fwd b c) (false, b, h) false
  have o1 : owe (dueR b h c :: l) = owe l + tallyAt ((Dev.tc (fwd b c) : Thread nD τ), SemLoc.dma (dsem false b h)) () N := rfl
  iapply (Rounds.wp_send_pointsTo 𝒱₀ ER (ringRd m) (c : Thread nD τ) none (κ₁ := K (c, some (true, b, h))) (κ₂ := K (fwd b c, some (false, b, h)))
    (r₁ := 0) (r₂ := 0) (d₁ := false) (d₂ := false) (fd := f) (q := q) (fs := fs) (hsc := hsc) (hsrc := hsrc) (hdst := hdst) (hsem := hsem)
    d1 d2 () () N rfl a1 a2 (owe l) o1 (W := W) p1 p2) $$ [HO Ht Ht' Hs Hd']
  · isplitr; · iexact HI
    isplitr; · iexact HI'
    isplitl [Hs]; · iexact Hs
    isplitl [Hd']; · iexact Hd'
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  iexact Hc

end Cert.KernelIdealProof
-- ==== Proof.KernelIdeal.Send.lean ====
/-
The two ways a half is sent: the first from the device's own block, the later ones from where the
half before has landed in the result.
-/
module

public import proofs.«01_k».proof.Proof.KernelIdeal.Split
public import proofs.«01_k».proof.Proof.KernelIdeal.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cx → ℕ)

/-- The first half in direction `b`. -/
theorem send_block {α : Type} {Q : α → sProp 𝕄} {k : PUnit → Prog (TpuEff nD τ sig (Elt F) Λ₀ .tc) α} (b : Bool) (c n : Dev nD) (hn : n = fwd b c)
    (l : List (GSem nD τ sig × ℕ)) {xo oo : Fin 2 → ℕ} {xinb oinb} (hxo : xo = ![hs b, 0]) (hoo : oo = ![st b c, 0])
    {hsc : (oH oo oinb : Memref sig (Dev.tc n : Thread nD τ).2.kind .hbm S8192x1024 .f32).view.ref.isScScratch = false}
    {hsrc : (xH xo xinb).view.WordExact} {hdst : (oH oo oinb).view.WordExact}
    {hsem : DmaTarget.Typed .hbm (.dma (dsem false b 0)) (.remote (Dev.tc n : Thread nD τ) (oH oo oinb) (.dma (dsem true b 0)) hsc)} :
    iprop(records m K ∗ Owes c (dueR b 0 c :: l) ∗ dutyTok ER (cell (some (true, b, 0)) c) 0 false
        ∗ dutyTok ER (cell (some (false, b, 0)) (fwd b c)) 0 false ∗ pay m true b 0 c ∗ (∃ f, half b (fwd b c) (org b (fwd b c) (Fin.succ 0)) f))
      ⊢ iprop(((Owes c l ∗ cred (tallyAt (cell (some (true, b, 0)) c) () N))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xH xo xinb) (.remote (Dev.tc n : Thread nD τ) (oH oo oinb) (.dma (dsem true b 0)) hsc) (.dma (dsem false b 0)) hsrc hdst hsem) k) Q) :=
  send_step m K b 0 c n hn l (src := xH xo xinb) (off := oo) (inb := oinb) (hoo.trans (by rw [show org b c (Fin.castSucc 0) = c from org_zero b c]))
    (hsc := hsc) (hsrc := hsrc) (hdst := hdst) (hsem := hsem) (fs := blk m c) (q := fullShare.left)
    (fun x => read_half (blk m) b c hoo hxo x) (src_block m b c hxo)

/-- A later half. -/
theorem send_result {α : Type} {Q : α → sProp 𝕄} {k : PUnit → Prog (TpuEff nD τ sig (Elt F) Λ₀ .tc) α} (b : Bool) (h : Fin 3) (hh : h ≠ 0) (c n : Dev nD) (hn : n = fwd b c)
    (l : List (GSem nD τ sig × ℕ)) {oo : Fin 2 → ℕ} {oinb} (hoo : oo = ![st b (org b c h.castSucc), 0])
    {hsc : (oH oo oinb : Memref sig (Dev.tc n : Thread nD τ).2.kind .hbm S8192x1024 .f32).view.ref.isScScratch = false}
    {hsrc : (oH oo oinb).view.WordExact} {hdst : (oH oo oinb).view.WordExact}
    {hsem : DmaTarget.Typed .hbm (.dma (dsem false b h)) (.remote (Dev.tc n : Thread nD τ) (oH oo oinb) (.dma (dsem true b h)) hsc)} :
    iprop(records m K ∗ Owes c (dueR b h c :: l) ∗ dutyTok ER (cell (some (true, b, h)) c) 0 false
        ∗ dutyTok ER (cell (some (false, b, h)) (fwd b c)) 0 false ∗ pay m true b h c ∗ (∃ f, half b (fwd b c) (org b (fwd b c) (Fin.succ h)) f))
      ⊢ iprop(((Owes c l ∗ cred (tallyAt (cell (some (true, b, h)) c) () N))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oH oo oinb) (.remote (Dev.tc n : Thread nD τ) (oH oo oinb) (.dma (dsem true b h)) hsc) (.dma (dsem false b h)) hsrc hdst hsem) k) Q) :=
  send_step m K b h c n hn l (src := oH oo oinb) (off := oo) (inb := oinb) hoo
    (hsc := hsc) (hsrc := hsrc) (hdst := hdst) (hsem := hsem) (fs := gath (blk m)) (q := fullShare)
    (fun x => rfl) (src_result m b h hh c hoo)

end Cert.KernelIdealProof
-- ==== Proof.KernelIdeal.Body.lean ====
/-
The kernel's body on one device, run from what the device starts with to what it ends with.
-/
module

public import proofs.«01_k».proof.Proof.KernelIdeal.Send

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The device's own semaphores -/

theorem inb_slot : ∀ i : Fin 2, ∀ a, (![i.val] : Fin 1 → ℕ) a + S1.size a ≤ S2.size a := by decide
/-- Slot `i`'s semaphore: of the copy out of the staging buffer if `u`, else of the copy into it. -/
abbrev lsem (u : Bool) (i : Fin 2) : DmaSem sig :=
  (((match u with | true => cc0_scratch2 | false => cc0_scratch1 : DmaSems sig S2).slice (Rect.unit (s := S2) ![i.val] S1.size (inb_slot i))).squeeze S_ squeezes_S1_S_).sem
theorem lev_local (u : Bool) (i : Fin 2) : lev (.dma (lsem u i)) = 0 :=
  lev_other _ (by revert u i; decide +kernel)

def locals (c : Dev nD) : sProp 𝕄 :=
  iprop(semVal ((c : Thread nD τ), .dma (lsem false 0)) 0 ∗ semVal ((c : Thread nD τ), .dma (lsem false 1)) 0
    ∗ semVal ((c : Thread nD τ), .dma (lsem true 0)) 0 ∗ semVal ((c : Thread nD τ), .dma (lsem true 1)) 0)

/-! ## What a device starts with -/

/-- For the half it sends in direction `b` at step `h`, and for the half it receives: the tokens, the positions, and the units it will receive. -/
def kit (b : Bool) (h : Fin 3) (c : Dev nD) : sProp 𝕄 :=
  iprop(dutyTok ER (cell (some (true, b, h)) c) 0 false ∗ dutyTok ER (cell (some (false, b, h)) (fwd b c)) 0 false
    ∗ atPos ER (cell (some (true, b, h)) c) 0 ∅ 0 ∗ atPos ER (cell (some (false, b, h)) c) 0 ∅ 0
    ∗ cred (tallyAt (cell (some (false, b, h)) c) () N))
def ready (c : Dev nD) : sProp 𝕄 :=
  iprop((dutyTok ER (cell none (bwd true c)) 0 true ∗ dutyTok ER (cell none (bwd false c)) 0 false
      ∗ atPos ER (cell none c) 0 ∅ 0 ∗ cred (tallyAt (cell none c) () 2))
    ∗ kit true 0 c ∗ kit false 0 c ∗ kit true 1 c ∗ kit false 1 c ∗ kit true 2 c ∗ kit false 2 c)

/-! ## What it ends with -/

/-- The semaphores of a direction, used up. -/
def spent (s b : Bool) (c : Dev nD) : sProp 𝕄 :=
  iprop(semVal (cell (some (s, b, 0)) c) 0 ∗ semVal (cell (some (s, b, 1)) c) 0 ∗ semVal (cell (some (s, b, 2)) c) 0)
def done (c : Dev nD) : sProp 𝕄 :=
  iprop(xPts c Finset.univ fullShare (blk m c) ∗ oPts c Finset.univ (gath (blk m)) ∗ stage c
    ∗ (locals c ∗ spent true true c ∗ spent false true c ∗ spent true false c ∗ spent false false c) ∗ semVal (cell none c) 0)

/-! ## The side conditions of the steps -/

/-- A wait at level `x` is allowed when every half still owed goes to a later step. -/
theorem below (x : ℕ) (rs : List (Bool × Fin 3)) (c : Dev nD) (h : ∀ r ∈ rs, x < 2 + r.2.val) :
    ∀ p ∈ rs.map (fun r => dueR r.1 r.2 c), p.1.1.2 = .tc ∧ x < lev p.1.2 := by
  intro p hp
  obtain ⟨r, hr, rfl⟩ := List.mem_map.mp hp
  refine ⟨rfl, ?_⟩
  show x < lev (ksem (some (false, r.1, r.2)))
  rw [lev_recv]; exact h r hr

theorem below_recv (b : Bool) (h : Fin 3) (rs : List (Bool × Fin 3)) (c : Dev nD) (hr : ∀ r ∈ rs, h.val < r.2.val) :
    ∀ p ∈ rs.map (fun r => dueR r.1 r.2 c), p.1.1.2 = .tc ∧ lev (ksem (some (false, b, h))) < lev p.1.2 := by
  rw [lev_recv b h]
  exact below _ rs c fun r hr' => Nat.add_lt_add_left (hr r hr') 2

theorem off1_zero (c : Dev nD) : k0_off1 c 0#32 = ![st true c, 0] := by revert c; decide +kernel
theorem off2_zero (c : Dev nD) : k0_off2 c 0#32 = ![st false c, 0] := by revert c; decide +kernel

/-! ## The body -/

variable (K : Dev nD × Cx → ℕ)

set_option maxHeartbeats 4000000 in
theorem body_runs (c : Dev nD) (Kt : PUnit → sProp 𝕄) :
    iprop((records m K ∗ levAts L lv ∗ Owes c (dues c) ∗ ready c ∗ locals c ∗ xPts c Finset.univ fullShare (blk m c) ∗ (∃ f, oPts c Finset.univ f) ∗ stage c)
        ∗ (iprop(Owes c [] ∗ done m c) -∗ Kt ⟨⟩))
      ⊢ wp frame (wpE (defs₀ (F := F)) 𝒱₀ c none) Set.univ
          (cc0_body (Memref.whole main_arg0) (Memref.isWhole_whole _) (Memref.whole main_v1) (Memref.isWhole_whole _)
            (Memref.whole cc0_scratch0) (Memref.isWhole_whole _) cc0_scratch1 cc0_scratch2 cc0_scratch3 cc0_scratch4 cc0_scratch5 cc0_scratch6) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  simp only [semSignalWord, semWaitWord, Prog.lift, Prog.bind_op, Prog.bind_ret, Prog.pure_eq_ret, wp_deviceId]
  simp only [dev1_eq c, dev2_eq c]
  unfold ready locals kit
  iintro ⟨⟨#HR, #Hlev, HO, ⟨⟨tB, tB', aB, cB⟩, ⟨sT0, rT0, aS0, aR0, c0⟩, ⟨sF0, rF0, bS0, bR0, d0⟩, ⟨sT1, rT1, aS1, aR1, c1⟩, ⟨sF1, rF1, bS1, bR1, d1⟩,
    ⟨sT2, rT2, aS2, aR2, c2⟩, ⟨sF2, rF2, bS2, bR2, d2⟩⟩, ⟨i0, i1, u0, u1⟩, Hx, Hout, Hst⟩, Hk⟩
  ihave H := (out_split m c) $$ Hout
  icases H with ⟨Hown, lT, lF⟩
  ihave H := (x_eq m c).1 $$ Hx
  icases H with ⟨⟨pT, pF⟩, Hx⟩
  -- a unit to each neighbour, with the rows it will write
  iapply (signal_step m K true c (dueB false c :: [dueR true 0 c, dueR false 0 c, dueR true 1 c, dueR false 1 c, dueR true 2 c, dueR false 2 c])) $$ [HO tB lT]
  · isplitr; · iexact HR
    isplitl [HO]; · iexact HO
    isplitl [tB]; · iexact tB
    iexact lT
  iintro HO
  iapply (signal_step m K false c [dueR true 0 c, dueR false 0 c, dueR true 1 c, dueR false 1 c, dueR true 2 c, dueR false 2 c]) $$ [HO tB' lF]
  · isplitr; · iexact HR
    isplitl [HO]; · iexact HO
    isplitl [tB']; · iexact tB'
    iexact lF
  iintro HO
  -- the wait for both
  iapply (barrier_step m K c [dueR true 0 c, dueR false 0 c, dueR true 1 c, dueR false 1 c, dueR true 2 c, dueR false 2 c] (below 1 [(true, 0), (false, 0), (true, 1), (false, 1), (true, 2), (false, 2)] c (by decide))) $$ [HO cB aB]
  · isplitr; · iexact HR
    isplitr; · iexact Hlev
    isplitl [HO]; · iexact HO
    isplitl [cB]; · iexact cB
    iexact aB
  iintro ⟨HO, zB, HlT, HlF⟩
  unfold lent
  icases HlT with ⟨wT0, wT1, wT2⟩
  icases HlF with ⟨wF0, wF1, wF2⟩
  -- the first halves go out
  iapply (send_block m K true c _ (dev3_eq c) [dueR false 0 c, dueR true 1 c, dueR false 1 c, dueR true 2 c, dueR false 2 c] rfl (off1_zero c)) $$ [HO sT0 rT0 pT wT0]
  · isplitr; · iexact HR
    isplitl [HO]; · iexact HO
    isplitl [sT0]; · iexact sT0
    isplitl [rT0]; · iexact rT0
    isplitl [pT]; · iexact pT
    iexact wT0
  iintro ⟨HO, cs0⟩
  iapply (send_block m K false c _ (dev4_eq c) [dueR true 1 c, dueR false 1 c, dueR true 2 c, dueR false 2 c] rfl (off2_zero c)) $$ [HO sF0 rF0 pF wF0]
  · isplitr; · iexact HR
    isplitl [HO]; · iexact HO
    isplitl [sF0]; · iexact sF0
    isplitl [rF0]; · iexact rF0
    isplitl [pF]; · iexact pF
    iexact wF0
  iintro ⟨HO, ds0⟩
  -- the local copy
  iapply (chunk_step m c [dueR true 1 c, dueR false 1 c, dueR true 2 c, dueR false 2 c] (below 0 [(true, 1), (false, 1), (true, 2), (false, 2)] c (by decide)) 0 (by decide) (lev_local false 0) (lev_local true 0) rfl (k0_off3_eq c 0)) $$ [HO i0 u0 Hx Hst Hown]
  · isplitr; · iexact Hlev
    isplitl [HO]; · iexact HO
    isplitl [i0]; · iexact i0
    isplitl [u0]; · iexact u0
    isplitl [Hx]; · iexact Hx
    isplitl [Hst]; · iexact Hst
    iexact Hown
  iintro ⟨HO, i0, u0, Hx, Hst, Hown⟩
  iapply (chunk_step m c [dueR true 1 c, dueR false 1 c, dueR true 2 c, dueR false 2 c] (below 0 [(true, 1), (false, 1), (true, 2), (false, 2)] c (by decide)) 1 (by decide) (lev_local false 1) (lev_local true 1) rfl (k0_off3_eq c 1)) $$ [HO i1 u1 Hx Hst Hown]
  · isplitr; · iexact Hlev
    isplitl [HO]; · iexact HO
    isplitl [i1]; · iexact i1
    isplitl [u1]; · iexact u1
    isplitl [Hx]; · iexact Hx
    isplitl [Hst]; · iexact Hst
    iexact Hown
  iintro ⟨HO, i1, u1, Hx, Hst, Hown⟩
  iapply (chunk_step m c [dueR true 1 c, dueR false 1 c, dueR true 2 c, dueR false 2 c] (below 0 [(true, 1), (false, 1), (true, 2), (false, 2)] c (by decide)) 2 (by decide) (lev_local false 0) (lev_local true 0) rfl (k0_off3_eq c 2)) $$ [HO i0 u0 Hx Hst Hown]
  · isplitr; · iexact Hlev
    isplitl [HO]; · iexact HO
    isplitl [i0]; · iexact i0
    isplitl [u0]; · iexact u0
    isplitl [Hx]; · iexact Hx
    isplitl [Hst]; · iexact Hst
    iexact Hown
  iintro ⟨HO, i0, u0, Hx, Hst, Hown⟩
  iapply (chunk_step m c [dueR true 1 c, dueR false 1 c, dueR true 2 c, dueR false 2 c] (below 0 [(true, 1), (false, 1), (true, 2), (false, 2)] c (by decide)) 3 (by decide) (lev_local false 1) (lev_local true 1) rfl (k0_off3_eq c 3)) $$ [HO i1 u1 Hx Hst Hown]
  · isplitr; · iexact Hlev
    isplitl [HO]; · iexact HO
    isplitl [i1]; · iexact i1
    isplitl [u1]; · iexact u1
    isplitl [Hx]; · iexact Hx
    isplitl [Hst]; · iexact Hst
    iexact Hown
  iintro ⟨HO, i1, u1, Hx, Hst, Hown⟩
  iapply (chunk_step m c [dueR true 1 c, dueR false 1 c, dueR true 2 c, dueR false 2 c] (below 0 [(true, 1), (false, 1), (true, 2), (false, 2)] c (by decide)) 4 (by decide) (lev_local false 0) (lev_local true 0) rfl (k0_off3_eq c 4)) $$ [HO i0 u0 Hx Hst Hown]
  · isplitr; · iexact Hlev
    isplitl [HO]; · iexact HO
    isplitl [i0]; · iexact i0
    isplitl [u0]; · iexact u0
    isplitl [Hx]; · iexact Hx
    isplitl [Hst]; · iexact Hst
    iexact Hown
  iintro ⟨HO, i0, u0, Hx, Hst, Hown⟩
  iapply (chunk_step m c [dueR true 1 c, dueR false 1 c, dueR true 2 c, dueR false 2 c] (below 0 [(true, 1), (false, 1), (true, 2), (false, 2)] c (by decide)) 5 (by decide) (lev_local false 1) (lev_local true 1) rfl (k0_off3_eq c 5)) $$ [HO i1 u1 Hx Hst Hown]
  · isplitr; · iexact Hlev
    isplitl [HO]; · iexact HO
    isplitl [i1]; · iexact i1
    isplitl [u1]; · iexact u1
    isplitl [Hx]; · iexact Hx
    isplitl [Hst]; · iexact Hst
    iexact Hown
  iintro ⟨HO, i1, u1, Hx, Hst, Hown⟩
  iapply (chunk_step m c [dueR true 1 c, dueR false 1 c, dueR true 2 c, dueR false 2 c] (below 0 [(true, 1), (false, 1), (true, 2), (false, 2)] c (by decide)) 6 (by decide) (lev_local false 0) (lev_local true 0) rfl (k0_off3_eq c 6)) $$ [HO i0 u0 Hx Hst Hown]
  · isplitr; · iexact Hlev
    isplitl [HO]; · iexact HO
    isplitl [i0]; · iexact i0
    isplitl [u0]; · iexact u0
    isplitl [Hx]; · iexact Hx
    isplitl [Hst]; · iexact Hst
    iexact Hown
  iintro ⟨HO, i0, u0, Hx, Hst, Hown⟩
  iapply (chunk_step m c [dueR true 1 c, dueR false 1 c, dueR true 2 c, dueR false 2 c] (below 0 [(true, 1), (false, 1), (true, 2), (false, 2)] c (by decide)) 7 (by decide) (lev_local false 1) (lev_local true 1) rfl (k0_off3_eq c 7)) $$ [HO i1 u1 Hx Hst Hown]
  · isplitr; · iexact Hlev
    isplitl [HO]; · iexact HO
    isplitl [i1]; · iexact i1
    isplitl [u1]; · iexact u1
    isplitl [Hx]; · iexact Hx
    isplitl [Hst]; · iexact Hst
    iexact Hown
  iintro ⟨HO, i1, u1, Hx, Hst, Hown⟩
  -- what lands is sent on
  iapply (wait_step m K false true 0 c [dueR true 1 c, dueR false 1 c, dueR true 2 c, dueR false 2 c] (below_recv true 0 [(true, 1), (false, 1), (true, 2), (false, 2)] c (by decide))) $$ [HO c0 aR0]
  · isplitr; · iexact HR
    isplitr; · iexact Hlev
    isplitl [HO]; · iexact HO
    isplitl [c0]; · iexact c0
    iexact aR0
  iintro ⟨HO, zTr0, pT⟩
  ihave pT := (Entails.of_eq (pay_one m true c)) $$ pT
  iapply (wait_step m K false false 0 c [dueR true 1 c, dueR false 1 c, dueR true 2 c, dueR false 2 c] (below_recv false 0 [(true, 1), (false, 1), (true, 2), (false, 2)] c (by decide))) $$ [HO d0 bR0]
  · isplitr; · iexact HR
    isplitr; · iexact Hlev
    isplitl [HO]; · iexact HO
    isplitl [d0]; · iexact d0
    iexact bR0
  iintro ⟨HO, zFr0, pF⟩
  ihave pF := (Entails.of_eq (pay_one m false c)) $$ pF
  iapply (send_result m K true 1 (by decide) c _ (dev5_eq c) [dueR false 1 c, dueR true 2 c, dueR false 2 c] (off1_eq c 1)) $$ [HO sT1 rT1 pT wT1]
  · isplitr; · iexact HR
    isplitl [HO]; · iexact HO
    isplitl [sT1]; · iexact sT1
    isplitl [rT1]; · iexact rT1
    isplitl [pT]; · iexact pT
    iexact wT1
  iintro ⟨HO, cs1⟩
  iapply (send_result m K false 1 (by decide) c _ (dev6_eq c) [dueR true 2 c, dueR false 2 c] (off2_eq c 1)) $$ [HO sF1 rF1 pF wF1]
  · isplitr; · iexact HR
    isplitl [HO]; · iexact HO
    isplitl [sF1]; · iexact sF1
    isplitl [rF1]; · iexact rF1
    isplitl [pF]; · iexact pF
    iexact wF1
  iintro ⟨HO, ds1⟩
  iapply (wait_step m K false true 1 c [dueR true 2 c, dueR false 2 c] (below_recv true 1 [(true, 2), (false, 2)] c (by decide))) $$ [HO c1 aR1]
  · isplitr; · iexact HR
    isplitr; · iexact Hlev
    isplitl [HO]; · iexact HO
    isplitl [c1]; · iexact c1
    iexact aR1
  iintro ⟨HO, zTr1, pT⟩
  ihave pT := (Entails.of_eq (pay_two m true c)) $$ pT
  iapply (wait_step m K false false 1 c [dueR true 2 c, dueR false 2 c] (below_recv false 1 [(true, 2), (false, 2)] c (by decide))) $$ [HO d1 bR1]
  · isplitr; · iexact HR
    isplitr; · iexact Hlev
    isplitl [HO]; · iexact HO
    isplitl [d1]; · iexact d1
    iexact bR1
  iintro ⟨HO, zFr1, pF⟩
  ihave pF := (Entails.of_eq (pay_two m false c)) $$ pF
  iapply (send_result m K true 2 (by decide) c _ (dev7_eq c) [dueR false 2 c] (off1_eq c 2)) $$ [HO sT2 rT2 pT wT2]
  · isplitr; · iexact HR
    isplitl [HO]; · iexact HO
    isplitl [sT2]; · iexact sT2
    isplitl [rT2]; · iexact rT2
    isplitl [pT]; · iexact pT
    iexact wT2
  iintro ⟨HO, cs2⟩
  iapply (send_result m K false 2 (by decide) c _ (dev8_eq c) [] (off2_eq c 2)) $$ [HO sF2 rF2 pF wF2]
  · isplitr; · iexact HR
    isplitl [HO]; · iexact HO
    isplitl [sF2]; · iexact sF2
    isplitl [rF2]; · iexact rF2
    isplitl [pF]; · iexact pF
    iexact wF2
  iintro ⟨HO, ds2⟩
  iapply (wait_step m K false true 2 c [] (below_recv true 2 [] c (by decide))) $$ [HO c2 aR2]
  · isplitr; · iexact HR
    isplitr; · iexact Hlev
    isplitl [HO]; · iexact HO
    isplitl [c2]; · iexact c2
    iexact aR2
  iintro ⟨HO, zTr2, pT⟩
  iapply (wait_step m K false false 2 c [] (below_recv false 2 [] c (by decide))) $$ [HO d2 bR2]
  · isplitr; · iexact HR
    isplitr; · iexact Hlev
    isplitl [HO]; · iexact HO
    isplitl [d2]; · iexact d2
    iexact bR2
  iintro ⟨HO, zFr2, pF⟩
  -- what was sent is the device's again
  iapply (wait_step m K true true 0 c [] (fun _ hp => absurd hp List.not_mem_nil)) $$ [HO cs0 aS0]
  · isplitr; · iexact HR
    isplitr; · iexact Hlev
    isplitl [HO]; · iexact HO
    isplitl [cs0]; · iexact cs0
    iexact aS0
  iintro ⟨HO, zTs0, gT0⟩
  iapply (wait_step m K true false 0 c [] (fun _ hp => absurd hp List.not_mem_nil)) $$ [HO ds0 bS0]
  · isplitr; · iexact HR
    isplitr; · iexact Hlev
    isplitl [HO]; · iexact HO
    isplitl [ds0]; · iexact ds0
    iexact bS0
  iintro ⟨HO, zFs0, gF0⟩
  iapply (wait_step m K true true 1 c [] (fun _ hp => absurd hp List.not_mem_nil)) $$ [HO cs1 aS1]
  · isplitr; · iexact HR
    isplitr; · iexact Hlev
    isplitl [HO]; · iexact HO
    isplitl [cs1]; · iexact cs1
    iexact aS1
  iintro ⟨HO, zTs1, gT1⟩
  iapply (wait_step m K true false 1 c [] (fun _ hp => absurd hp List.not_mem_nil)) $$ [HO ds1 bS1]
  · isplitr; · iexact HR
    isplitr; · iexact Hlev
    isplitl [HO]; · iexact HO
    isplitl [ds1]; · iexact ds1
    iexact bS1
  iintro ⟨HO, zFs1, gF1⟩
  iapply (wait_step m K true true 2 c [] (fun _ hp => absurd hp List.not_mem_nil)) $$ [HO cs2 aS2]
  · isplitr; · iexact HR
    isplitr; · iexact Hlev
    isplitl [HO]; · iexact HO
    isplitl [cs2]; · iexact cs2
    iexact aS2
  iintro ⟨HO, zTs2, gT2⟩
  iapply (wait_step m K true false 2 c [] (fun _ hp => absurd hp List.not_mem_nil)) $$ [HO ds2 bS2]
  · isplitr; · iexact HR
    isplitr; · iexact Hlev
    isplitl [HO]; · iexact HO
    isplitl [ds2]; · iexact ds2
    iexact bS2
  iintro ⟨HO, zFs2, gF2⟩
  rw [wp_ret]; imodintro
  iapply Hk
  isplitl [HO]; · iexact HO
  unfold done spent locals
  isplitl [gT0 gF0 Hx]
  · iapply (x_eq m c).2
    isplitl [gT0 gF0]
    · isplitl [gT0]; · iexact gT0
      iexact gF0
    iexact Hx
  isplitl [Hown gT1 gT2 pT gF1 gF2 pF]
  · iapply (out_join m c)
    isplitl [Hown]; · iexact Hown
    isplitl [gT1 gT2 pT]
    · isplitl [gT1]; · iapply (Entails.of_eq (pay_one m true c).symm); iexact gT1
      isplitl [gT2]; · iapply (Entails.of_eq (pay_two m true c).symm); iexact gT2
      iexact pT
    · isplitl [gF1]; · iapply (Entails.of_eq (pay_one m false c).symm); iexact gF1
      isplitl [gF2]; · iapply (Entails.of_eq (pay_two m false c).symm); iexact gF2
      iexact pF
  isplitl [Hst]; · iexact Hst
  isplitr [zB]
  · isplitl [i0 i1 u0 u1]
    · isplitl [i0]; · iexact i0
      isplitl [i1]; · iexact i1
      isplitl [u0]; · iexact u0
      iexact u1
    isplitl [zTs0 zTs1 zTs2]
    · isplitl [zTs0]; · iexact zTs0
      isplitl [zTs1]; · iexact zTs1
      iexact zTs2
    isplitl [zTr0 zTr1 zTr2]
    · isplitl [zTr0]; · iexact zTr0
      isplitl [zTr1]; · iexact zTr1
      iexact zTr2
    isplitl [zFs0 zFs1 zFs2]
    · isplitl [zFs0]; · iexact zFs0
      isplitl [zFs1]; · iexact zFs1
      iexact zFs2
    · isplitl [zFr0]; · iexact zFr0
      isplitl [zFr1]; · iexact zFr1
      iexact zFr2
  iexact zB

end Cert.KernelIdealProof
-- ==== Proof.KernelIdeal.Deal.lean ====
/-
How the launch deals out the protocol: the semaphores' rounds and tokens are made, every shared
semaphore's invariant is set up, each token goes to the device that will use it, and each device
gets credit for the units the others owe its semaphores.
-/
module

public import proofs.«01_k».proof.Proof.KernelIdeal.Body

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The kernel's semaphores -/

/-- All sixteen semaphores of the kernel: four for the copies a device makes on its own, twelve shared ones. -/
abbrev osem : (Bool × Fin 2) ⊕ (Bool × Bool × Fin 3) → SemLoc sig
  | .inl (u, i) => .dma (lsem u i)
  | .inr k => ksem (some k)

theorem ownSemFacts : Pipeline.OwnSemFacts cfg0.spec osem := by decide +kernel

theorem sum_eq {α β : Type} [Fintype α] [Fintype β] (Φ : α ⊕ β → sProp 𝕄) :
    bigSep Finset.univ Φ = iprop((bigSep Finset.univ fun a => Φ (.inl a)) ∗ bigSep Finset.univ fun b => Φ (.inr b)) := bigSep_univ_sum Φ
theorem option_eq {α : Type} [Fintype α] (Φ : Option α → sProp 𝕄) :
    bigSep Finset.univ Φ = iprop(Φ none ∗ bigSep Finset.univ fun a => Φ (some a)) := by
  rw [bigSep_univ_equiv (Equiv.optionEquivSumPUnit α).symm Φ, sum_eq, bigSep_univ_eq_bigSepL [PUnit.unit] (by decide) (by decide), bigSepL_singleton]
  show iprop((bigSep Finset.univ fun a => Φ (some a)) ∗ Φ none) = _
  refine BI.Entails.antisymm (show _ ⊢ (_ : sProp 𝕄) from ?_) (show _ ⊢ (_ : sProp 𝕄) from ?_)
  · iintro ⟨H, H'⟩
    isplitl [H']; · iexact H'
    iexact H
  · iintro ⟨H, H'⟩
    isplitl [H']; · iexact H'
    iexact H
theorem bool_eq (Φ : Bool → sProp 𝕄) : bigSep Finset.univ Φ = iprop(Φ true ∗ Φ false) :=
  bigSep_univ_eq_bigSepL [true, false] (by decide) (by decide) Φ

theorem fin_three (Φ : Fin 3 → sProp 𝕄) : bigSep Finset.univ Φ = iprop(Φ 0 ∗ Φ 1 ∗ Φ 2) :=
  bigSep_univ_eq_bigSepL [0, 1, 2] (by decide) (by decide) Φ
theorem fin_two (Φ : Fin 2 → sProp 𝕄) : bigSep Finset.univ Φ = iprop(Φ 0 ∗ Φ 1) :=
  bigSep_univ_eq_bigSepL [0, 1] (by decide) (by decide) Φ
/-- The six halves of a device: three in each direction. -/
theorem six (Φ : Bool × Fin 3 → sProp 𝕄) :
    bigSep Finset.univ Φ = iprop((Φ (true, 0) ∗ Φ (true, 1) ∗ Φ (true, 2)) ∗ Φ (false, 0) ∗ Φ (false, 1) ∗ Φ (false, 2)) := by
  rw [bigSep_univ_prod, bool_eq, fin_three, fin_three]
theorem twelve (Φ : Bool × Bool × Fin 3 → sProp 𝕄) :
    bigSep Finset.univ Φ = iprop((bigSep Finset.univ fun k => Φ (true, k)) ∗ bigSep Finset.univ fun k => Φ (false, k)) := by
  rw [bigSep_univ_prod, bool_eq, bigSep_univ_prod, bigSep_univ_prod]

theorem ownSems0_eq (c : Dev nD) : (Pipeline.ownSems0 (Ix := Unit) (Name := ℕ) (U := UU) (Lvl := ℕ) (Val := Elt F) (τ := τ) osem c : sProp 𝕄)
    = iprop(locals c ∗ bigSep Finset.univ fun k : Bool × Bool × Fin 3 => semVal (cell (some k) c) 0) := by
  unfold Pipeline.ownSems0
  rw [sum_eq, bigSep_univ_prod, bool_eq, fin_two, fin_two]
  unfold locals
  refine BI.Entails.antisymm (show _ ⊢ (_ : sProp 𝕄) from ?_) (show _ ⊢ (_ : sProp 𝕄) from ?_)
  · iintro ⟨⟨⟨H1, H2⟩, H3, H4⟩, HS⟩
    isplitr [HS]
    · isplitl [H3]; · iexact H3
      isplitl [H4]; · iexact H4
      isplitl [H1]; · iexact H1
      iexact H2
    · iexact HS
  · iintro ⟨⟨H3, H4, H1, H2⟩, HS⟩
    isplitr [HS]
    · isplitl [H1 H2]
      · isplitl [H1]; · iexact H1
        iexact H2
      · isplitl [H3]; · iexact H3
        iexact H4
    · iexact HS
/-- The barrier's semaphore is the only one that is not the kernel's. -/
theorem unscopedSems0_eq (c : Dev nD) : (unscopedSems0 c : sProp 𝕄) = semVal (cell none c) 0 := by
  unfold unscopedSems0; rw [bigSep_eq_bigSepL_of_eq [SemLoc.reg barS] (by decide) (by decide)]; rfl

/-! ## Rounds and tokens -/

theorem cell_inj {k k' : Cx} {c c' : Dev nD} (h : cell k c = cell k' c') : c = c' ∧ k = k' :=
  ⟨by have := congrArg (fun g : GSem nD τ sig => g.1.1) h; exact this, ksem_inj _ _ (congrArg Prod.snd h)⟩

abbrev kcell (ck : Dev nD × Cx) : GSem nD τ sig := cell ck.2 ck.1
theorem kcell_injective : Function.Injective kcell := by
  rintro ⟨c, k⟩ ⟨c', k'⟩ h
  obtain ⟨rfl, rfl⟩ := cell_inj h
  rfl
def ringCells : Finset (GSem nD τ sig) := Finset.univ.map ⟨kcell, kcell_injective⟩

/-- Which token of a device's semaphores: the barrier's from the neighbour in direction `b`, or the one of a send or receive semaphore. -/
abbrev Tx : Type := Bool ⊕ (Bool × Bool × Fin 3)
abbrev tokCell (c : Dev nD) : Tx → GSem nD τ sig
  | .inl _ => cell none c
  | .inr k => cell (some k) c
abbrev tokDuty : Tx → Bool
  | .inl b => b
  | .inr _ => false
abbrev tokOf (cj : Dev nD × Tx) : GSem nD τ sig × ℕ × Bool := (tokCell cj.1 cj.2, 0, tokDuty cj.2)
theorem tokOf_injective : Function.Injective tokOf := by
  rintro ⟨c, j⟩ ⟨c', j'⟩ h
  have h1 : tokCell c j = tokCell c' j' := congrArg Prod.fst h
  have h2 : tokDuty j = tokDuty j' := congrArg (fun x : GSem nD τ sig × ℕ × Bool => x.2.2) h
  rcases j with b | k <;> rcases j' with b' | k'
  · obtain ⟨rfl, -⟩ := cell_inj h1
    rw [show b = b' from h2]
  · exact absurd (cell_inj h1).2 (by simp)
  · exact absurd (cell_inj h1).2 (by simp)
  · obtain ⟨rfl, e⟩ := cell_inj h1
    rw [Option.some.inj e]
def ringToks : Finset (GSem nD τ sig × ℕ × Bool) := Finset.univ.map ⟨tokOf, tokOf_injective⟩

def u₀ : UU := (initOf (Pipeline.cells cfgs cellOf_inj) (Pipeline.launchToks cfgs cellOf_inj), (initOf ringCells ringToks, 1))

abbrev tok (c : Dev nD) (j : Tx) : sProp 𝕄 := dutyTok ER (tokCell c j) 0 (tokDuty j)

/-- What is made for each device: its semaphores' rounds, its positions in them, and the tokens on them. -/
def G (c : Dev nD) : sProp 𝕄 :=
  iprop((bigSep Finset.univ fun k : Cx => roundState ER (ringRd m) (kcell (c, k)) 0)
    ∗ (bigSep Finset.univ fun k : Cx => iprop(atPos ER (kcell (c, k)) 0 ∅ 0 ∗ reached ER (kcell (c, k)) 0))
    ∗ bigSep Finset.univ fun j : Tx => tok c j)

theorem u₀_split : (ownU u₀ : sProp 𝕄)
    ⊢ iprop(BI.own (EP (F := F) (initOf (Pipeline.cells cfgs cellOf_inj) (Pipeline.launchToks cfgs cellOf_inj))) ∗ BI.own (ER (initOf ringCells ringToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf ringCells ringToks, (1 : Counters)))))

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun j : Tx => tok c j := by
    unfold ringToks; rw [bigSep_map, bigSep_univ_prod]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants, and the tokens where they are used -/

/-- The device whose semaphore the token `j` of device `c` is for. -/
def tgt : Tx → Dev nD ≃ Dev nD
  | .inl b => ⟨bwd b, fwd b, by revert b; decide, by revert b; decide⟩
  | .inr (true, _, _) => Equiv.refl _
  | .inr (false, b, _) => ⟨fwd b, bwd b, by revert b; decide, by revert b; decide⟩

/-- A device's positions, and the tokens it uses. -/
def linear (c : Dev nD) : sProp 𝕄 :=
  iprop((bigSep Finset.univ fun k : Cx => atPos ER (kcell (c, k)) 0 ∅ 0) ∗ bigSep Finset.univ fun j : Tx => tok (tgt j c) j)
/-- What a device has after the invariants are set up. -/
def G' (c : Dev nD) : sProp 𝕄 := iprop((∃ K, records m K ∗ linear c) ∗ locals c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cx => iprop(∃ κ : ℕ, cellInv ER (ringRd m) κ (kcell (c, k))))
          ∗ (bigSep Finset.univ fun k : Cx => iprop(atPos ER (kcell (c, k)) 0 ∅ 0 ∗ reached ER (kcell (c, k)) 0))
          ∗ (bigSep Finset.univ fun j : Tx => tok c j) ∗ locals c) := by
  unfold G
  rw [ownSems0_eq, unscopedSems0_eq]
  iintro ⟨⟨Hl, Hos⟩, Hus, Hst, Hat, Htok⟩
  ihave Hv := (Entails.of_eq (option_eq fun k => (semVal (kcell (c, k)) 0 : sProp 𝕄)).symm) $$ [Hos Hus]
  · isplitl [Hus] <;> iassumption
  imod (show iprop((bigSep Finset.univ fun k : Cx => semVal (kcell (c, k)) 0) ∗ bigSep Finset.univ fun k : Cx => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-- Each token goes to the device that uses it. -/
theorem toks_around : (bigSep Finset.univ fun c : Dev nD => bigSep Finset.univ fun j : Tx => (tok c j : sProp 𝕄))
    = bigSep Finset.univ fun c : Dev nD => bigSep Finset.univ fun j : Tx => (tok (tgt j c) j : sProp 𝕄) := by
  rw [Pipeline.bigSep_univ_comm, bigSep_congr fun (j : Tx) _ => bigSep_univ_equiv (tgt j) fun c : Dev nD => (tok c j : sProp 𝕄), Pipeline.bigSep_univ_comm]

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  refine ((bigSep_mono fun c _ => core_alloc m c).trans (bigSep_fupd _ _)).trans
    (show _ ⊢ iprop(|={Set.univ}=> bigSep Finset.univ (G' m)) from BI.fupd_mono (show _ ⊢ (_ : sProp 𝕄) from ?_))
  rw [bigSep_sep', bigSep_sep', bigSep_sep', ← bigSep_univ_prod (fun ck : Dev nD × Cx => iprop(∃ κ : ℕ, cellInv ER (ringRd m) κ (kcell ck))),
    bigSep_congr (s := Finset.univ) (fun (c : Dev nD) _ => bigSep_sep' Finset.univ (fun k : Cx => (atPos ER (kcell (c, k)) 0 ∅ 0 : sProp 𝕄)) (fun k => reached ER (kcell (c, k)) 0)),
    bigSep_sep', ← bigSep_univ_prod (fun ck : Dev nD × Cx => (reached ER (kcell ck) 0 : sProp 𝕄)), toks_around]
  iintro ⟨HI, ⟨Hat, #HR⟩, Htok, Hl⟩
  ihave HK := (BI.bigSep_exists_pi Finset.univ (fun (ck : Dev nD × Cx) (κ : ℕ) => (cellInv ER (ringRd m) κ (kcell ck) : sProp 𝕄))) $$ HI
  icases HK with ⟨%K, #HI⟩
  iapply (show iprop(records m K ∗ bigSep Finset.univ fun c : Dev nD => iprop(linear c ∗ locals c)) ⊢ bigSep Finset.univ (G' m) from
    (sep_mono_left (BI.bigSep_of_persistent Finset.univ (records m K))).trans (by
      rw [← bigSep_sep']
      refine bigSep_mono fun c _ => (show _ ⊢ (_ : sProp 𝕄) from ?_)
      unfold G'
      iintro ⟨HR, HL, Hl⟩
      isplitl [HR HL]
      · iexists K
        isplitl [HR] <;> iassumption
      iexact Hl))
  isplitr
  · unfold records
    isplitl
    · iexact HI
    iexact HR
  · unfold linear
    simp only [bigSep_sep']
    isplitl [Hat Htok]
    · isplitl [Hat]; · iexact Hat
      iexact Htok
    iexact Hl

/-! ## The credit for what the others owe -/

theorem cell_eq_iff (k k' : Cx) (c c' : Dev nD) : cell k c = cell k' c' ↔ c = c' ∧ k = k' :=
  ⟨cell_inj, fun ⟨h, h'⟩ => by rw [h, h']⟩

abbrev debt (p : Dev nD × Cx × ℕ) : GSem nD τ sig × ℕ := (cell p.2.1 p.1, p.2.2)
theorem owe_apply (l : List (Dev nD × Cx × ℕ)) (k : Cx) (c : Dev nD) :
    owe (l.map debt) (cell k c) () = (l.map fun p => if c = p.1 ∧ k = p.2.1 then p.2.2 else 0).sum := by
  induction l with
  | nil => rfl
  | cons p l ih =>
    obtain ⟨c', k', n⟩ := p
    rw [List.map_cons, List.map_cons, List.sum_cons, Nat.add_comm, ← ih]
    show (owe (l.map debt) + tallyAt (cell k' c') () n) (cell k c) () = _
    rw [Pi.add_apply, Finsupp.add_apply, tallyAt_apply]
    congr 1
    by_cases h : cell k c = cell k' c'
    · rw [if_pos ⟨h, rfl⟩, if_pos (cell_inj h)]
    · rw [if_neg fun e => h e.1, if_neg fun e => h ((cell_eq_iff k k' c c').2 e)]

/-- The launch debts of `d`, a half being `n` units. -/
abbrev debts (n : ℕ) (d : Dev nD) : List (Dev nD × Cx × ℕ) :=
  [(bwd true d, none, 1), (bwd false d, none, 1), (fwd true d, some (false, true, 0), n), (fwd false d, some (false, false, 0), n),
    (fwd true d, some (false, true, 1), n), (fwd false d, some (false, false, 1), n), (fwd true d, some (false, true, 2), n), (fwd false d, some (false, false, 2), n)]

/-- What a device's semaphore will get from the others: two units at the barrier, one half at each receive semaphore. -/
abbrev due : Option (Bool × Fin 3) → Cx
  | none => none
  | some r => some (false, r)
abbrev dueN (n : ℕ) : Option (Bool × Fin 3) → ℕ
  | none => 2
  | some _ => n

theorem one_source (b : Bool) (c : Dev nD) (n : ℕ) : (∑ d : Dev nD, if c = fwd b d then n else 0) = n := by
  rw [← Finset.sum_filter, Finset.sum_const, (show ∀ b c, (Finset.univ.filter fun d : Dev nD => c = fwd b d).card = 1 by decide) b c, one_smul]

theorem owed_total (n : ℕ) (r : Option (Bool × Fin 3)) (c : Dev nD) :
    (∑ d : Dev nD, ((debts n d).map fun p => if c = p.1 ∧ due r = p.2.1 then p.2.2 else 0).sum) = dueN n r := by
  rcases r with _ | ⟨b, h⟩
  · simp only [debts, due, List.map_cons, List.map_nil, List.sum_cons, List.sum_nil, reduceCtorEq, and_false, and_true, if_false, Nat.add_zero, Finset.sum_add_distrib, one_source]
  · fin_cases b <;> fin_cases h <;> simp [debts, Finset.sum_add_distrib, one_source]

theorem launch_due (r : Option (Bool × Fin 3)) (c : Dev nD) :
    tallyOn (cell (due r) c) (launchCredit (Pipeline.owing fun d => owe (dues d)) 0 (cell (due r) c))
      = (tallyAt (cell (due r) c) () (dueN N r) : CellTallies nD τ sig Unit) := by
  unfold tallyAt; refine congrArg _ (Finsupp.ext fun u => ?_); cases u
  rw [Pipeline.launchCredit_owing, Finsupp.single_eq_same, ← owed_total N r c]
  exact Finset.sum_congr rfl fun d _ => owe_apply (debts N d) (due r) c

abbrev dueLoc : Option (Bool × Fin 3) ↪ SemLoc sig :=
  ⟨fun r => ksem (due r), fun r r' h => by
    have := ksem_inj _ _ h
    rcases r with _ | r <;> rcases r' with _ | r' <;> simp_all [due]⟩

theorem creds (c : Dev nD) : (Pipeline.launchCred (fun d => owe (dues d)) c : sProp 𝕄)
    ⊢ iprop(cred (tallyAt (cell none c) () 2) ∗ bigSep Finset.univ fun r : Bool × Fin 3 => cred (tallyAt (cell (some (false, r)) c) () N)) := by
  unfold Pipeline.launchCred
  refine (bigSep_subset (Finset.subset_univ (Finset.univ.map dueLoc))).trans ?_
  rw [bigSep_map]
  refine (show _ ⊢ (_ : sProp 𝕄) from Entails.of_eq (bigSep_congr fun r _ => congrArg cred (launch_due r c))).trans ?_
  rw [option_eq]

/-- A device's positions, tokens and credit are what its kernel starts with. -/
theorem ready_intro (c : Dev nD) : iprop(linear c ∗ Pipeline.launchCred (fun d => owe (dues d)) c) ⊢ (ready c : sProp 𝕄) := by
  unfold linear
  rw [option_eq, twelve, six, six, sum_eq, bool_eq, twelve, six, six]
  iintro ⟨⟨⟨aB, ⟨⟨aS0, aS1, aS2⟩, bS0, bS1, bS2⟩, ⟨aR0, aR1, aR2⟩, bR0, bR1, bR2⟩, ⟨tB, tB'⟩, ⟨⟨sT0, sT1, sT2⟩, sF0, sF1, sF2⟩, ⟨rT0, rT1, rT2⟩, rF0, rF1, rF2⟩, Hcr⟩
  ihave Hc := (creds (F := F) c) $$ Hcr
  rw [six]
  icases Hc with ⟨cB, ⟨c0, c1, c2⟩, d0, d1, d2⟩
  unfold ready kit
  isplitl [tB tB' aB cB]
  · isplitl [tB]; · iexact tB
    isplitl [tB']; · iexact tB'
    isplitl [aB]; · iexact aB
    iexact cB
  isplitl [sT0 rT0 aS0 aR0 c0]
  · isplitl [sT0]; · iexact sT0
    isplitl [rT0]; · iexact rT0
    isplitl [aS0]; · iexact aS0
    isplitl [aR0]; · iexact aR0
    iexact c0
  isplitl [sF0 rF0 bS0 bR0 d0]
  · isplitl [sF0]; · iexact sF0
    isplitl [rF0]; · iexact rF0
    isplitl [bS0]; · iexact bS0
    isplitl [bR0]; · iexact bR0
    iexact d0
  isplitl [sT1 rT1 aS1 aR1 c1]
  · isplitl [sT1]; · iexact sT1
    isplitl [rT1]; · iexact rT1
    isplitl [aS1]; · iexact aS1
    isplitl [aR1]; · iexact aR1
    iexact c1
  isplitl [sF1 rF1 bS1 bR1 d1]
  · isplitl [sF1]; · iexact sF1
    isplitl [rF1]; · iexact rF1
    isplitl [bS1]; · iexact bS1
    isplitl [bR1]; · iexact bR1
    iexact d1
  isplitl [sT2 rT2 aS2 aR2 c2]
  · isplitl [sT2]; · iexact sT2
    isplitl [rT2]; · iexact rT2
    isplitl [aS2]; · iexact aS2
    isplitl [aR2]; · iexact aR2
    iexact c2
  isplitl [sF2]; · iexact sF2
  isplitl [rF2]; · iexact rF2
  isplitl [bS2]; · iexact bS2
  isplitl [bR2]; · iexact bR2
  iexact d2

end Cert.KernelIdealProof
-- ==== Proof.KernelIdeal.Run.lean ====
/-
The whole program: from the launch, every device's kernel runs to the end, its block is as it was,
its result holds the four blocks one below the other, and every semaphore is at zero.
-/
module

public import proofs.«01_k».proof.Proof.KernelIdeal.Deal
public import Idealize.ShloMosaic.Lib.Pipeline.Quiescent

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- What a device's kernel starts with, the staging buffer apart. -/
def start (c : Dev nD) : sProp 𝕄 :=
  iprop((∃ K, records m K) ∗ levAts L lv ∗ ready c ∗ locals c ∗ xPts c Finset.univ fullShare (blk m c) ∗ ∃ f, oPts c Finset.univ f)

def dats (_ : Fin 1) (c : Dev nD) : Dat τ (Elt F) Unit ℕ UU ℕ cfg0 c where
  A w := m ((cfg0.win w).arr.view.loc (c : Thread nD τ))
  after w _ := Fin.elim0 w
  Φ t := match t with
    | ⟨0, _⟩ => iprop(start m c ∗ stage c)
    | ⟨_ + 1, _⟩ => done m c
  q _ := fullShare
  owed t := match t with
    | ⟨0, _⟩ => owe (dues c)
    | ⟨_ + 1, _⟩ => 0

theorem no_windows (Φ : Fin cfg0.W → sProp 𝕄) : bigSep Finset.univ Φ = iprop(emp) := rfl

theorem body_obligation (c : Dev nD) : BodyObligation (dats m 0 c) (defs₀ (F := F)) 𝒱₀ () Set.univ := fun t => by
  rw [fin_N0 t, no_windows, no_windows]
  show iprop((start m c ∗ stage c) ∗ (∃ W : Waits sig Unit, ⌜_⌝ ∗ owes (c : Thread nD τ) (owe (dues c)) W) ∗ emp)
    ⊢ wp frame (wpE (defs₀ (F := F)) 𝒱₀ c none) Set.univ
      (cc0_body (Memref.whole main_arg0) (Memref.isWhole_whole _) (Memref.whole main_v1) (Memref.isWhole_whole _)
        (Memref.whole cc0_scratch0) (Memref.isWhole_whole _) cc0_scratch1 cc0_scratch2 cc0_scratch3 cc0_scratch4 cc0_scratch5 cc0_scratch6)
      (fun _ => iprop(done m c ∗ (∃ W : Waits sig Unit, ⌜_⌝ ∗ owes (c : Thread nD τ) 0 W) ∗ emp))
  unfold start
  iintro ⟨⟨⟨⟨%K, HR⟩, Hlev, Hr, Hl, Hx, Ho⟩, Hst⟩, ⟨%W, -, HO⟩, -⟩
  iapply (body_runs m K c _)
  isplitr []
  · isplitl [HR]; · iexact HR
    isplitl [Hlev]; · iexact Hlev
    isplitl [HO]
    · unfold Owes; iexists W; iexact HO
    isplitl [Hr]; · iexact Hr
    isplitl [Hl]; · iexact Hl
    isplitl [Hx]; · iexact Hx
    isplitl [Ho]; · iexact Ho
    iexact Hst
  · unfold Owes
    iintro ⟨⟨%W', HO⟩, Hd⟩
    isplitl [Hd]; · iexact Hd
    isplitl [HO]
    · iexists W'
      isplitr
      · ipureintro; exact fun _ _ => Or.inl trivial
      · iexact HO
    · iempintro

/-- At launch: a device's two arrays, its credit, and what the set-up left it. -/
theorem start_intro (c : Dev nD) :
    iprop(Pipeline.unscopedRestP Pipeline.Prefetch.none cfg0.spec c (fun b => m ((c : Thread nD τ).loc b)) ∗ levAts L lv
        ∗ Pipeline.launchCred (fun d => owe (dues d)) c ∗ prngReg c (ρ c) ∗ G' m c)
      ⊢ |={Set.univ}=> iprop(start m c ∗ emp) := by
  rw [Pipeline.unscopedRestP_none, unscopedRest0_eq]
  unfold G' start xPts oPts
  iintro ⟨⟨Hx, Ho⟩, Hlev, Hcr, -, ⟨%K, HR, HL⟩, Hl⟩
  ihave Hr := (ready_intro (F := F) c) $$ [HL Hcr]
  · isplitl [HL] <;> iassumption
  imodintro
  isplitl
  · isplitl [HR]
    · iexists K; iexact HR
    isplitl [Hlev]; · iexact Hlev
    isplitl [Hr]; · iexact Hr
    isplitl [Hl]; · iexact Hl
    isplitl [Hx]; · iexact Hx
    iexists _; iexact Ho
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ stage c) from rfl, scopedRest0_eq]
  unfold stage
  iintro ⟨Hs, -, Hr⟩
  isplitl [Hs]; · iexact Hs
  iexact Hr

/-- What is left to look at in the final memory. -/
def final (c : Dev nD) : sProp 𝕄 :=
  iprop(unscopedSems0 c ∗ xPts c Finset.univ fullShare (blk m c) ∗ oPts c Finset.univ (gath (blk m)))

theorem leave (c : Dev nD) :
    (dats m 0 c).Φ (Fin.last cfg0.N) ⊢ iprop(final m c ∗ Pipeline.ownSems0 osem c ∗ Pipeline.scopedRest cfg0.spec c) := by
  rw [show (dats m 0 c).Φ (Fin.last cfg0.N) = done m c from rfl, scopedRest0_eq, ownSems0_eq, twelve, six, six]
  unfold done final stage spent
  rw [unscopedSems0_eq]
  iintro ⟨Hx, Ho, Hst, ⟨Hl, ⟨a0, a1, a2⟩, ⟨b0, b1, b2⟩, ⟨c0, c1, c2⟩, d0, d1, d2⟩, HB⟩
  isplitl [HB Hx Ho]
  · isplitl [HB]; · iexact HB
    isplitl [Hx]; · iexact Hx
    iexact Ho
  isplitr [Hst]
  · isplitl [Hl]; · iexact Hl
    isplitl [a0 a1 a2 c0 c1 c2]
    · isplitl [a0 a1 a2]
      · isplitl [a0]; · iexact a0
        isplitl [a1]; · iexact a1
        iexact a2
      · isplitl [c0]; · iexact c0
        isplitl [c1]; · iexact c1
        iexact c2
    · isplitl [b0 b1 b2]
      · isplitl [b0]; · iexact b0
        isplitl [b1]; · iexact b1
        iexact b2
      · isplitl [d0]; · iexact d0
        isplitl [d1]; · iexact d1
        iexact d2
  · iexact Hst

/-- What the final memory holds at a device. -/
def Ends (c : Dev nD) (s : MemSt nD τ sig (Elt F)) : Prop :=
  s.mem ((c : Thread nD τ).loc main_arg0) = blk m c ∧ s.mem ((c : Thread nD τ).loc main_v1) = gath (blk m)

theorem look (c : Dev nD) (s' : Phys nD τ sig (Elt F)) :
    iprop(final m c ∗ emp ∗ SI s')
      ⊢ |={Set.univ}=> iprop(⌜Ends m c s'.mem ∧ ∀ sm : SemLoc sig, sm.isScoped .tc = false → s'.mem.sem ((c.tc : Thread nD τ), sm) = 0⌝ ∗ SI s') := by
  unfold final xPts oPts
  iintro ⟨⟨Hu, Hx, Ho⟩, -, HSI⟩
  icombine HSI Hx gives %hx
  icombine HSI Ho gives %ho
  ihave %hs := (tcUnscoped_read c s') $$ [Hu HSI]
  · isplitl [Hu] <;> iassumption
  imodintro
  isplitr
  · ipureintro
    exact ⟨⟨Buf.eq_of_forall_mem_univ hx, Buf.eq_of_forall_mem_univ ho⟩, hs⟩
  · iexact HSI

set_option maxRecDepth 8000 in
/-- From any memory with every semaphore at zero, every fair execution ends; then each device's block is as it
was, its result is the blocks of all four devices, and every semaphore is at zero. -/
theorem run_main : θ_run defs (onTc (τ := τ) (main (F := F))) ⟨m, fun _ => 0, ρ⟩ (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => Fin.elim0 w) (harr := arr_whole0) (hstage := stage_whole0) (hshare := fun _ w => Fin.elim0 w)
    (hdistinct := winFacts0.arr_inj)
    (O₀ := fun d => owe (dues d)) (howed₀ := fun _ => rfl) (howedN := fun _ => rfl)
    (L := L) (lv := lv) (hL := L_of_ne) (hwaits := fun c => Pipeline.cellsWaits_intro cfgs (dats m) () 0 c fun w _ _ => Fin.elim0 w)
    (G := G m) (G' := G' m) (u₀ := u₀)
    (hu₀ := by
      iintro Hu
      ihave H := (u₀_split (F := F)) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := final m) (Z := fun _ => iprop(emp))
    (hX := start_intro m ρ) (hin := enter m) (hout := leave m)
    (QY := fun c s => Ends m c s ∧ ∀ sm : SemLoc sig, sm.isScoped .tc = false → s.sem ((c.tc : Thread nD τ), sm) = 0)
    (hY := look m)
    (hQ := fun _ h hs => ⟨fun c => (h c).2.2.1, sem_eq_zero hs fun c => (h c).2.2.2⟩)

end Cert.KernelIdealProof
-- ==== Proof.KernelIdeal.Value.lean ====
/-
The equation: where each device holds its block of a whole array, the blocks put one below the
other are that array.
-/
module

public import proofs.«01_k».proof.Proof.KernelIdeal.Rows
public import Idealize.ShloMosaic.Lib.Layout

@[expose] public section

noncomputable section

namespace Cert.KernelIdealProof

open Cert.KernelIdeal Cert.KernelIdeal.Gen
open Idealize.ShloMosaic

variable {F : FTy → Type} [FloatOps F]

theorem gath_block (v : GathV F) (X : Dev nD → BlockV F) (h : ∀ c, X c = Layout.block S16384x1024 S65536x1024 0 4 c v) : gath X = v := by
  funext i
  unfold gath
  rw [h, Layout.block_apply]
  refine congrArg v (funext fun b => Fin.ext ?_)
  rw [Layout.Tiles.idx_val]
  match b with
  | ⟨0, _⟩ =>
    refine (if_pos rfl).trans ?_
    show (i 0).val / 16384 * 16384 + (i 0).val % 16384 = (i 0).val
    omega
  | ⟨1, _⟩ => rfl

end Cert.KernelIdealProof
-- ==== Proof.lean ====
/-
The certificate: the frames of the kernel, of its ideal reading and of the reference, and that
over the extended reals every device's result is the reference's. The runs are proved in
Proof/Kernel, Proof/KernelIdeal and Proof/ReferenceIdeal; here they are put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.ReferenceIdeal.Run
public import proofs.«01_k».proof.Proof.Kernel.Run
public import proofs.«01_k».proof.Proof.KernelIdeal.Run
public import proofs.«01_k».proof.Proof.KernelIdeal.Value
public import Idealize.ShloMosaic.Adequacy
public import Idealize.ShloMosaic.Init

@[expose] public section

noncomputable section

namespace Cert.Proof

open Idealize.ShloMosaic Idealize.SL.Sem

/-- The frames, and that every device's result is the whole array whose blocks the devices hold. -/
theorem claim : Cert.Claim :=
  ⟨Cert.Kernel.Gen.facts, Cert.KernelIdeal.Gen.facts, Cert.ReferenceIdeal.Gen.facts,
    fun m g _ => (θ_run _ _ _).mono (fun _ h => ⟨fun c => (h.1 c).1, h.2⟩) (Cert.KernelProof.run_main m g),
    fun m g _ => (θ_run _ _ _).mono (fun _ h => ⟨fun c => (h.1 c).1, h.2⟩) (Cert.KernelIdealProof.run_main m g),
    fun m g _ => Cert.ReferenceIdealProof.run_main m g,
    trivial,
    fun m g m' g' _ hm =>
      ⟨m' (((0 : Dev Cert.ReferenceIdeal.nD).tc : Thread Cert.ReferenceIdeal.nD Cert.ReferenceIdeal.τ).loc Cert.ReferenceIdeal.main_arg0),
        (θ_run _ _ _).mono (fun _ h c => ⟨(h.1 c).2.trans (Cert.KernelIdealProof.gath_block _ _ hm), (h.1 c).1⟩) (Cert.KernelIdealProof.run_main m g),
        (θ_run _ _ _).mono (fun _ h => ⟨h.1 0, h.1 0⟩) (Cert.ReferenceIdealProof.run_main m' g')⟩⟩

end Cert.Proof

end
